-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S4x128x512 : Shape := ⟨3, ![4, 128, 512]⟩
abbrev S4 : Shape := ⟨1, ![4]⟩
abbrev S_ : Shape := ⟨0, ![]⟩
abbrev S128x512 : Shape := ⟨2, ![128, 512]⟩
abbrev S128x1024 : Shape := ⟨2, ![128, 1024]⟩
abbrev S1x128x512 : Shape := ⟨3, ![1, 128, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S512x1024, .f32⟩
  | .hbm, ⟨3, _⟩ => ⟨S1024x512, .f32⟩
  | .hbm, ⟨4, _⟩ => ⟨S512x512, .f32⟩
  | .local _ .vmem, ⟨0, _⟩ => ⟨S512x512, .f32⟩
  | .local _ .vmem, ⟨1, _⟩ => ⟨S512x1024, .f32⟩
  | .local _ .vmem, ⟨2, _⟩ => ⟨S512x1024, .f32⟩
  | .local _ .vmem, ⟨3, _⟩ => ⟨S1024x512, .f32⟩
  | .local _ .vmem, ⟨4, _⟩ => ⟨S512x512, .f32⟩
  | .local _ .vmem, ⟨5, _⟩ => ⟨S4x128x512, .f32⟩
  | .local _ .vmem, ⟨6, _⟩ => ⟨S4x128x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c128_i32 : BitVec 32 := 128#32
  let v18 : BitVec 32 := Scalar.muli v17 c128_i32
  let v19 : Index := Scalar.indexCast v18
  let c0 : Index := 0#32
  ![v19.toNat, 0]
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_29 : BitVec 32 := 1#32
  let v37 : BitVec 32 := Scalar.muli v17 c1_i32_29
  let v38 : BitVec 32 := Scalar.addi c0_i32_30 v37
  v38.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v47 : BitVec 32 := Scalar.addi v2 c2_i32_35
  let c4_i32_36 : BitVec 32 := 4#32
  let v48 : BitVec 32 := Scalar.remsi v47 c4_i32_36
  let c1_i32_54 : BitVec 32 := 1#32
  let v68 : BitVec 32 := Scalar.muli v48 c1_i32_54
  let v69 : BitVec 32 := Scalar.addi c0_i32_55 v68
  v69.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_60 : BitVec 32 := 3#32
  let v78 : BitVec 32 := Scalar.addi v2 c3_i32_60
  let c4_i32_61 : BitVec 32 := 4#32
  let v79 : BitVec 32 := Scalar.remsi v78 c4_i32_61
  let c1_i32_79 : BitVec 32 := 1#32
  let v99 : BitVec 32 := Scalar.muli v79 c1_i32_79
  let v100 : BitVec 32 := Scalar.addi c0_i32_80 v99
  v100.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_85 : BitVec 32 := 128#32
  let v109 : BitVec 32 := Scalar.muli v2 c128_i32_85
  let v110 : Index := Scalar.indexCast v109
  let c0_86 : Index := 0#32
  ![v110.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_140 : BitVec 32 := 128#32
  let v164 : BitVec 32 := Scalar.muli v2 c128_i32_140
  let c0_i32_145 : BitVec 32 := 0#32
  ![v164.toNat, 0]
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_137 : BitVec 32 := 1#32
  let v161 : BitVec 32 := Scalar.addi v2 c1_i32_137
  let c4_i32_138 : BitVec 32 := 4#32
  let v162 : BitVec 32 := Scalar.remsi v161 c4_i32_138
  let c1_i32_143 : BitVec 32 := 1#32
  let v165 : BitVec 32 := Scalar.muli v162 c1_i32_143
  let v166 : BitVec 32 := Scalar.addi c0_i32_144 v165
  v166.toNat
def k0_dev8 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v173 : BitVec 32 := Scalar.addi v2 c2_i32_147
  let c4_i32_148 : BitVec 32 := 4#32
  let v174 : BitVec 32 := Scalar.remsi v173 c4_i32_148
  let c1_i32_153 : BitVec 32 := 1#32
  let v177 : BitVec 32 := Scalar.muli v174 c1_i32_153
  let v178 : BitVec 32 := Scalar.addi c0_i32_154 v177
  v178.toNat
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_157 : BitVec 32 := 3#32
  let v185 : BitVec 32 := Scalar.addi v2 c3_i32_157
  let c4_i32_158 : BitVec 32 := 4#32
  let v186 : BitVec 32 := Scalar.remsi v185 c4_i32_158
  let c1_i32_163 : BitVec 32 := 1#32
  let v189 : BitVec 32 := Scalar.muli v186 c1_i32_163
  let v190 : BitVec 32 := Scalar.addi c0_i32_164 v189
  v190.toNat
def k0_off4 (d0 : Dev nD) (c1_i32_167 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v197 : BitVec 32 := Scalar.addi v2 c1_i32_167
  let c4_i32_168 : BitVec 32 := 4#32
  let v198 : BitVec 32 := Scalar.remsi v197 c4_i32_168
  let c128_i32_170 : BitVec 32 := 128#32
  let v200 : BitVec 32 := Scalar.muli v198 c128_i32_170
  let c0_i32_175 : BitVec 32 := 0#32
  ![v200.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x4096 : Shape := ⟨2, ![512, 4096]⟩
abbrev S4096x512 : Shape := ⟨2, ![4096, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x4096, .f32⟩
  | .hbm, ⟨2, _⟩ => ⟨S512x4096, .f32⟩
  | .hbm, ⟨3, _⟩ => ⟨S4096x512, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S_, .f32⟩
  | .hbm, ⟨9, _⟩ => ⟨S512x4096, .f32⟩
  | .hbm, ⟨10, _⟩ => ⟨S512x4096, .f32⟩
  | .hbm, ⟨11, _⟩ => ⟨S512x4096, .f32⟩
  | .hbm, ⟨12, _⟩ => ⟨S512x4096, .f32⟩
  | .hbm, ⟨13, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Blocks.lean ====
/-
  What one device computes, block by block: the block of rows of `x` it reads, its share of the
  feed-forward product for that block, and the sum of the four devices' shares.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.Tactic

@[expose] public section

noncomputable section

namespace Cert.Swiglu

open Cert.KernelIdeal Cert.KernelIdeal.Gen
open Idealize.ShloMosaic Idealize.ShloMosaic.TcCoe

variable {F : FTy → Type} [FloatOps F]

/-! ## The four devices, and the distances between them -/

/-- The device `r + 1` places after `c` around the mesh. -/
def far (c : Dev nD) (r : Fin 3) : Dev nD := ⟨(c.val + r.val + 1) % 4, Nat.mod_lt _ (Nat.succ_pos 3)⟩

/-- The distance from the device `r + 1` places ahead back to the start. -/
def back (r : Fin 3) : Fin 3 := ⟨2 - r.val, Nat.lt_succ_of_le (Nat.sub_le 2 r.val)⟩

/-- Seen from the other end: device `c` looking `r` ahead is device `far c r` looking `back r` ahead. -/
def opp (x : Dev nD × Fin 3) : Dev nD × Fin 3 := (far x.1 x.2, back x.2)

theorem opp_opp (x : Dev nD × Fin 3) : opp (opp x) = x := by revert x; decide
theorem far_back (c : Dev nD) (r : Fin 3) : far (far c r) (back r) = c := by revert c r; decide
theorem back_back (r : Fin 3) : back (back r) = r := by revert r; decide

/-- Looking from the other end, as a bijection of device and distance. -/
def oppEquiv : (Dev nD × Fin 3) ≃ (Dev nD × Fin 3) := ⟨opp, opp, opp_opp, opp_opp⟩

/-- The number of the slot for distance `r`: slot 0 of each four-slot buffer stays unused. -/
def slotNo (r : Fin 3) : Fin 4 := r.succ

/-! ## Blocks of rows -/

theorem row_inb (b : Fin 4) : ∀ a, (![128 * b.val, 0] : Fin 2 → ℕ) a + S128x512.size a ≤ S512x512.size a := by revert b; decide
theorem slot_inb (k : Fin 4) : ∀ a, (![k.val, 0, 0] : Fin 3 → ℕ) a + S1x128x512.size a ≤ S4x128x512.size a := by revert k; decide

/-- Rows `128 b` to `128 b + 127` of a 512 × 512 array. -/
abbrev rowRect (b : Fin 4) : Rect S512x512 := Rect.unit (s := S512x512) ![128 * b.val, 0] S128x512.size (row_inb b)
/-- Slot `k` of a buffer of four slots. -/
abbrev slotRect (k : Fin 4) : Rect S4x128x512 := Rect.unit (s := S4x128x512) ![k.val, 0, 0] S1x128x512.size (slot_inb k)

/-- Block `b` of the rows of an array. -/
def rows (x : Vec F S512x512 .f32) (b : Fin 4) : Vec F S128x512 .f32 := fun i => x ((rowRect b).emb i)

/-- A block laid out as one slot. -/
def asSlot (v : Vec F S128x512 .f32) : Vec F S1x128x512 .f32 := shapeCast S1x128x512 v shapeCasts_S128x512_S1x128x512

/-- One device's share of a block's result: gate and up products with its own columns of the first two weights, the
    gated activation, and the product with its own rows of the third. -/
def share (xb : Vec F S128x512 .f32) (wg wu : Vec F S512x1024 .f32) (wd : Vec F S1024x512 .f32) : Vec F S128x512 .f32 :=
  k0_pay14 (k0_pay13 xb wg wu) wd

/-- The sum of a device's own share and the three it received, in the order of the kernel's additions. -/
def sum4 (own v1 v2 v3 : Vec F S128x512 .f32) : Vec F S128x512 .f32 := k0_pay15 own (asSlot v1) (asSlot v2) (asSlot v3)

set_option maxRecDepth 65536 in
/-- What the kernel stores for the first peer is its share laid out as a slot; -/
theorem pay_first (xb : Vec F S128x512 .f32) (wg wu : Vec F S512x1024 .f32) (wd : Vec F S1024x512 .f32) :
    k0_pay4 (k0_pay1 xb) (k0_pay2 xb wg) (k0_pay3 wu) wd = asSlot (share xb wg wu wd) := rfl
set_option maxRecDepth 65536 in
/-- so for the second, -/
theorem pay_second (xb : Vec F S128x512 .f32) (wg wu : Vec F S512x1024 .f32) (wd : Vec F S1024x512 .f32) :
    k0_pay8 (k0_pay5 xb) (k0_pay6 xb wg) (k0_pay7 wu) (constant S128x1024 .f32 0x00000000#32) wd = asSlot (share xb wg wu wd) := rfl
set_option maxRecDepth 65536 in
/-- and for the third. -/
theorem pay_third (xb : Vec F S128x512 .f32) (wg wu : Vec F S512x1024 .f32) (wd : Vec F S1024x512 .f32) :
    k0_pay12 (k0_pay10 xb wg) (k0_pay11 xb wu) wd = asSlot (share xb wg wu wd) := rfl

/-! ## Contents at launch and after -/

variable (m : (ℓ : Loc nD τ sig) → Buf (Elt F) ℓ)

/-- Device `c`'s copy of `x`, -/
def X (c : Dev nD) : Vec F S512x512 .f32 := (win0_0.blk (0 : Fin 1)).view.read (Elt F) (m ((c : Thread nD τ).loc main_arg0))
/-- its columns of the gate weight, -/
def WG (c : Dev nD) : Vec F S512x1024 .f32 := (win0_1.blk (0 : Fin 1)).view.read (Elt F) (m ((c : Thread nD τ).loc main_arg1))
/-- its columns of the up weight, -/
def WU (c : Dev nD) : Vec F S512x1024 .f32 := (win0_2.blk (0 : Fin 1)).view.read (Elt F) (m ((c : Thread nD τ).loc main_arg2))
/-- and its rows of the down weight. -/
def WD (c : Dev nD) : Vec F S1024x512 .f32 := (win0_3.blk (0 : Fin 1)).view.read (Elt F) (m ((c : Thread nD τ).loc main_arg3))

/-- Device `d`'s share of block `b`. -/
def contrib (d : Dev nD) (b : Fin 4) : Vec F S128x512 .f32 := share (rows (X m d) b) (WG m d) (WU m d) (WD m d)

/-- Block `b` reduced, on device `b`: its own share and those of the devices one, two and three places after it. -/
def red (b : Dev nD) : Vec F S128x512 .f32 :=
  sum4 (contrib m b b) (contrib m (far b 0) b) (contrib m (far b 1) b) (contrib m (far b 2) b)

/-- The whole result, the same on every device: block `b` of its rows is block `b` reduced. -/
def OUT : Vec F S512x512 .f32 := fun i =>
  red m ⟨(i 0).val / 128, Nat.div_lt_of_lt_mul (i 0).isLt⟩
    (fun a => match a with
      | ⟨0, _⟩ => ⟨(i 0).val % 128, Nat.mod_lt _ (by decide)⟩
      | ⟨1, _⟩ => i 1)

/-- Reading block `b` of the result gives block `b` reduced. -/
theorem rows_OUT (b : Fin 4) : rows (OUT m) b = red m b := by
  funext i
  have h0 : (((rowRect b).emb i) 0).val = 128 * b.val + (i 0).val := by
    show 128 * b.val + 1 * (i 0).val = _; omega
  have hi : (i 0).val < 128 := (i 0).isLt
  have h1 : (((rowRect b).emb i) 1).val = (i 1).val := by show 0 + 1 * (i 1).val = _; omega
  unfold rows OUT
  have hb : (⟨(((rowRect b).emb i) 0).val / 128, Nat.div_lt_of_lt_mul (((rowRect b).emb i) 0).isLt⟩ : Dev nD) = b :=
    Fin.ext (show (((rowRect b).emb i) 0).val / 128 = b.val by rw [h0]; omega)
  rw [hb]
  refine congrArg (red m b) (funext fun a => ?_)
  match a with
  | ⟨0, _⟩ => exact Fin.ext (show (((rowRect b).emb i) 0).val % 128 = (i 0).val by rw [h0]; omega)
  | ⟨1, _⟩ => exact Fin.ext h1

end Cert.Swiglu

end
-- ==== Proof.Cells.lean ====
/-
  The semaphores of the exchange, what each of them counts, and the contents that each signal or copy hands over.

  Every device is linked with the devices 1, 2 and 3 places after it. A device's cells are:
  * its barrier: one unit from each peer; a peer's unit hands over that peer's receive slot and the rows of that
    peer's result that this device is to fill;
  * for each distance a pair of cells for the exchange of shares (departure, arrival), and a pair for the exchange of
    reduced blocks (departure, arrival), each paid once by the copy.
-/
module

public import proofs.«01_k».proof.Proof.Blocks

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The records of the exchange's rounds, their duties named by a distance, -/
abbrev UB : Type := URounds (GSem nD τ sig) (Fin 3)
/-- beside the staging copies' own. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs -/

abbrev xM : Memref sig .tc .vmem S512x512 .f32 := Memref.whole cc0_stg0_0
abbrev gM : Memref sig .tc .vmem S512x1024 .f32 := Memref.whole cc0_stg1_0
abbrev uM : Memref sig .tc .vmem S512x1024 .f32 := Memref.whole cc0_stg2_0
abbrev dM : Memref sig .tc .vmem S1024x512 .f32 := Memref.whole cc0_stg3_0
abbrev oM : Memref sig .tc .vmem S512x512 .f32 := Memref.whole cc0_stg4_0
abbrev sM : Memref sig .tc .vmem S4x128x512 .f32 := Memref.whole cc0_scratch0
abbrev rM : Memref sig .tc .vmem S4x128x512 .f32 := Memref.whole cc0_scratch1

/-- Slot `k` of a four-slot buffer, as the copies name it. -/
abbrev slot (M : Memref sig .tc .vmem S4x128x512 .f32) (k : Fin 4) : Memref sig .tc .vmem S128x512 .f32 :=
  (M.slice (slotRect k) (fun _ => rfl)).squeeze S128x512 squeezes_S1x128x512_S128x512
/-- Block `b` of the result's rows, as the copies name it. -/
abbrev block (b : Fin 4) : Memref sig .tc .vmem S128x512 .f32 := oM.slice (rowRect b) (fun _ => rfl)

/-! ## Semaphores -/

/-- A device's cells: the barrier, or one of four kinds at a distance — 0 a share's departure, 1 a share's arrival, 2 a
    reduced block's departure, 3 a reduced block's arrival. -/
abbrev Kind : Type := Option (Fin 4 × Fin 3)

/-- The runtime's barrier semaphore. -/
abbrev barS : Sem sig := (SemArray.scalar (sig.barrier 0 rfl) : Sems sig S_).sem

/-- The four semaphore arrays. -/
abbrev semArr : Fin 4 → DmaSems sig S4 := fun | 0 => cc0_scratch2 | 1 => cc0_scratch3 | 2 => cc0_scratch4 | 3 => cc0_scratch5

theorem sem_inb (k : Fin 4) : ∀ a, (![k.val] : Fin 1 → ℕ) a + S1.size a ≤ S4.size a := by revert k; decide
/-- Element `k` of a semaphore array, as the program names it. -/
abbrev semAt (A : DmaSems sig S4) (k : Fin 4) : DmaSem sig :=
  ((A.slice (Rect.unit (s := S4) ![k.val] S1.size (sem_inb k))).squeeze S_ squeezes_S1_S_).sem

/-- The semaphore of a kind and a distance. -/
def dsem (j : Fin 4) (r : Fin 3) : DmaSem sig := semAt (semArr j) (slotNo r)

theorem dsem_val (j : Fin 4) (r : Fin 3) : (dsem j r).val = 6 + 4 * j.val + r.val := by revert j r; decide

/-- A cell's semaphore. -/
abbrev csem : Kind → SemLoc sig
  | none => .reg barS
  | some (j, r) => .dma (dsem j r)

theorem csem_injective : Function.Injective csem := by
  rintro (_ | ⟨j, r⟩) (_ | ⟨j', r'⟩) h
  · rfl
  · cases h
  · cases h
  · have h1 : dsem j r = dsem j' r' := by injection h
    have h2 : (dsem j r).val = (dsem j' r').val := by rw [h1]
    rw [dsem_val, dsem_val] at h2
    have h3 : j = j' := Fin.ext (by omega)
    have h4 : r = r' := Fin.ext (by omega)
    rw [h3, h4]

/-- A cell of a device. -/
abbrev kcell (x : Dev nD × Kind) : GSem nD τ sig := ((x.1 : Thread nD τ), csem x.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

open Classical in
/-- The kind that a semaphore belongs to, if it is one of the exchange's. -/
def kindOf (s : SemLoc sig) : Option Kind := if h : ∃ k, csem k = s then some h.choose else none

theorem kindOf_csem (k : Kind) : kindOf (csem k) = some k := by
  have h : ∃ k', csem k' = csem k := ⟨k, rfl⟩
  unfold kindOf
  rw [dif_pos h, csem_injective h.choose_spec]

theorem kindOf_stage (q : DmaSem sig) (hq : q.val < 5) : kindOf (.dma q) = none := by
  unfold kindOf
  refine dif_neg ?_
  rintro ⟨_ | ⟨j, r⟩, h⟩
  · cases h
  · have h1 : dsem j r = q := by injection h
    have h2 := dsem_val j r
    rw [h1] at h2; omega

/-- The units that one copy of a block raises its semaphores by. -/
def N : ℕ := (slot sM 0).view.dmaCredit
theorem N_pos : 0 < N := View.dmaCredit_pos _ (by decide)

/-! ## What is handed over -/

variable (m : (ℓ : Loc nD τ sig) → Buf (Elt F) ℓ)

/-- A receive slot at some contents. -/
def slotFree (c : Dev nD) (k : Fin 4) : sProp 𝕄 :=
  iprop(∃ f : Buf (Elt F) ((slot rM k).view.loc (c : Thread nD τ)), (slot rM k).view.loc (c : Thread nD τ) ↦[(slot rM k).view.set]{fullShare} f)
/-- A block of the result's rows at some contents. -/
def blockFree (c : Dev nD) (b : Fin 4) : sProp 𝕄 :=
  iprop(∃ f : Buf (Elt F) ((block b).view.loc (c : Thread nD τ)), (block b).view.loc (c : Thread nD τ) ↦[(block b).view.set]{fullShare} f)
/-- A block of the result's rows holding the result. -/
def blockDone (c : Dev nD) (b : Fin 4) (q : PosShare TreeShare) : sProp 𝕄 :=
  (block b).view.loc (c : Thread nD τ) ↦[(block b).view.set]{q} (OUT m)

/-- What the peer at distance `r` hands device `c` with its barrier unit: its receive slot for `c`, and its rows for
    `c`'s block. -/
def barPay (c : Dev nD) (r : Fin 3) : sProp 𝕄 := iprop(slotFree (far c r) (slotNo (back r)) ∗ blockFree (far c r) c)

/-- What the one payment of a copy's cell hands over: on departure the source, on arrival the filled destination. -/
def copyPay (c : Dev nD) (j : Fin 4) (r : Fin 3) : sProp 𝕄 :=
  match j with
  | 0 => owns (c : Thread nD τ) (slot sM (slotNo r)) fullShare (contrib m c (far c r))
  | 1 => owns (c : Thread nD τ) (slot rM (slotNo r)) fullShare (contrib m (far c r) c)
  | 2 => blockDone m c c (Ring.shares3 fullShare r)
  | 3 => blockDone m c (far c r) fullShare

def pay (c : Dev nD) : Kind → Fin 3 → sProp 𝕄
  | none, d => barPay c d
  | some (j, r), _ => copyPay m c j r

instance slotFree_storable (c : Dev nD) (k : Fin 4) : BI.Storable (upEmb : UEmb _ 𝕄) (slotFree (F := F) c k) := by
  unfold slotFree; infer_instance
instance blockFree_storable (c : Dev nD) (b : Fin 4) : BI.Storable (upEmb : UEmb _ 𝕄) (blockFree (F := F) c b) := by
  unfold blockFree; infer_instance
instance barPay_storable (c : Dev nD) (r : Fin 3) : BI.Storable (upEmb : UEmb _ 𝕄) (barPay (F := F) c r) := by
  unfold barPay; infer_instance
instance pay_storable (c : Dev nD) (k : Kind) (d : Fin 3) : BI.Storable (upEmb : UEmb _ 𝕄) (pay m c k d) := by
  rcases k with _ | ⟨j, r⟩
  · exact barPay_storable c d
  · show BI.Storable (upEmb : UEmb _ 𝕄) (copyPay m c j r)
    unfold copyPay blockDone
    split <;> infer_instance

/-- The duties of a cell: three for a barrier, one for a copy's cell. -/
def kduties : Kind → Finset (Fin 3)
  | none => Finset.univ
  | some _ => {0}
/-- The units of one duty. -/
def kamt : Kind → ℕ
  | none => 1
  | some _ => N

theorem kamt_pos (k : Kind) : 0 < kamt k := by
  rcases k with _ | k
  · exact Nat.one_pos
  · exact N_pos

/-- Each cell has one round, its first. -/
def Rd : Rounds.Schedule (GSem nD τ sig) (Fin 3) 𝕄 where
  duties g r := if r = 0 ∧ g.1.2 = .tc then (kindOf g.2).elim ∅ kduties else ∅
  unitless _ := False
  amount g _ _ := (kindOf g.2).elim 1 kamt
  payload g _ d := (kindOf g.2).elim iprop(emp) fun k => pay m g.1.1 k d
  amount_pos g _ _ _ := by
    rcases kindOf g.2 with _ | k
    · exact Nat.one_pos
    · exact kamt_pos k

instance Rd_payload_storable (g : GSem nD τ sig) (r : ℕ) (d : Fin 3) :
    BI.Storable (upEmb : UEmb _ 𝕄) ((Rd m).payload g r d) := by
  show BI.Storable (upEmb : UEmb _ 𝕄) ((kindOf g.2).elim iprop(emp) fun k => pay m g.1.1 k d)
  rcases kindOf g.2 with _ | k
  · exact (inferInstance : BI.Storable (upEmb : UEmb _ 𝕄) iprop(emp))
  · exact pay_storable m g.1.1 k d

theorem duties_at (x : Dev nD × Kind) : (Rd m).duties (kcell x) 0 = kduties x.2 := by
  show (if (0 = 0 ∧ (kcell x).1.2 = .tc) then (kindOf (csem x.2)).elim ∅ kduties else ∅) = _
  rw [if_pos ⟨rfl, rfl⟩, kindOf_csem]; rfl
theorem duties_later (g : GSem nD τ sig) : ∀ r, 1 ≤ r → (Rd m).duties g r = ∅ := fun r hr => if_neg fun h => by omega
theorem amount_at (x : Dev nD × Kind) (d : Fin 3) : (Rd m).amount (kcell x) 0 d = kamt x.2 := by
  show (kindOf (csem x.2)).elim 1 kamt = _
  rw [kindOf_csem]; rfl
theorem payload_at (x : Dev nD × Kind) (d : Fin 3) : (Rd m).payload (kcell x) 0 d = pay m x.1 x.2 d := by
  show (kindOf (csem x.2)).elim iprop(emp) (fun k => pay m x.1 k d) = _
  rw [kindOf_csem]; rfl

/-- A barrier's round is three units, -/
theorem expect_bar (c : Dev nD) : (Rd m).expect (kcell (c, none)) 0 = 3 := by
  unfold Schedule.expect Schedule.amountOf
  rw [duties_at, Finset.sum_congr rfl fun d _ => amount_at m (c, none) d]; rfl
/-- a copy's cell's round one copy. -/
theorem expect_copy (c : Dev nD) (y : Fin 4 × Fin 3) : (Rd m).expect (kcell (c, some y)) 0 = N := by
  unfold Schedule.expect Schedule.amountOf
  rw [duties_at]
  show ∑ d ∈ {0}, _ = N
  rw [Finset.sum_singleton, amount_at]; rfl

theorem mem_bar (c : Dev nD) (r : Fin 3) : r ∈ (Rd m).duties (kcell (c, none)) 0 := by
  rw [duties_at]; exact Finset.mem_univ _
theorem mem_copy (c : Dev nD) (y : Fin 4 × Fin 3) : (0 : Fin 3) ∈ (Rd m).duties (kcell (c, some y)) 0 := by
  rw [duties_at]; exact Finset.mem_singleton_self _

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What a barrier wait receives: every peer's slot and rows; -/
theorem rest_bar (c : Dev nD) :
    bigSep ((Rd m).duties (kcell (c, none)) 0 \ ∅) (fun d => (Rd m).payload (kcell (c, none)) 0 d)
      = iprop(barPay c 0 ∗ barPay c 1 ∗ barPay c 2) := by
  rw [Finset.sdiff_empty, duties_at, bigSep_congr fun d _ => payload_at m (c, none) d]
  exact bigSep_fin3 _
/-- what a copy's wait receives. -/
theorem rest_copy (c : Dev nD) (j : Fin 4) (r : Fin 3) :
    bigSep ((Rd m).duties (kcell (c, some (j, r))) 0 \ ∅) (fun d => (Rd m).payload (kcell (c, some (j, r))) 0 d) = copyPay m c j r := by
  rw [Finset.sdiff_empty, duties_at]
  show bigSep {0} _ = _
  rw [bigSep_singleton, payload_at]; rfl

end Cert.Swiglu

end
-- ==== Proof.Owed.lean ====
/-
  What each device owes at launch, payment by payment, and the order of the waits: every semaphore has a level, and a
  device waits only while all it owes lies on higher levels.
-/
module

public import proofs.«01_k».proof.Proof.Cells

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Dues -/

/-- A device and a kind: the name of a cell. -/
abbrev Key : Type := Dev nD × Kind

/-- The cells that device `c` pays at other devices, in the order of its payments: the three barriers, the arrivals of
    its three shares, the arrivals of its reduced block. -/
def dues (c : Dev nD) : List Key :=
  [(far c 0, none), (far c 1, none), (far c 2, none),
   (far c 0, some (1, back 0)), (far c 1, some (1, back 1)), (far c 2, some (1, back 2)),
   (far c 0, some (3, back 0)), (far c 1, some (3, back 1)), (far c 2, some (3, back 2))]

/-- A list of dues as tallies: the first due is the last summand, so a payment takes it off. -/
def owed : List Key → CellTallies nD τ sig Unit
  | [] => 0
  | k :: l => owed l + tallyAt (kcell k) () (kamt k.2)

/-- What device `c` owes at launch. -/
def O₀ (c : Dev nD) : CellTallies nD τ sig Unit := owed (dues c)

/-- A list of dues, at a cell: the cell's amount as often as the cell is listed. -/
theorem owed_at (l : List Key) (y : Key) : owed l (kcell y) () = l.count y * kamt y.2 := by
  induction l with
  | nil => rw [List.count_nil, Nat.zero_mul]; rfl
  | cons k l ih =>
    show (owed l + tallyAt (kcell k) () (kamt k.2)) (kcell y) () = _
    rw [Pi.add_apply, Finsupp.add_apply, ih, tallyAt_apply, List.count_cons]
    by_cases h : k = y
    · subst h; rw [if_pos ⟨rfl, rfl⟩, if_pos (beq_self_eq_true k), Nat.add_mul, Nat.one_mul]
    · rw [if_neg fun h' => h (kcell_injective h'.1).symm, if_neg fun h' => h (eq_of_beq h'), Nat.add_zero, Nat.add_zero]

/-- What is owed is owed to a listed cell. -/
theorem owed_pos {l : List Key} {g : GSem nD τ sig} {u : Unit} (h : 0 < owed l g u) : ∃ k ∈ l, g = kcell k := by
  induction l with
  | nil => exact absurd h (Nat.lt_irrefl 0)
  | cons k l ih =>
    have h' : 0 < (owed l + tallyAt (kcell k) () (kamt k.2)) g u := h
    rw [Pi.add_apply, Finsupp.add_apply, tallyAt_apply] at h'
    by_cases hg : g = kcell k
    · exact ⟨k, List.mem_cons_self, hg⟩
    · rw [if_neg fun h'' => hg h''.1, Nat.add_zero] at h'
      obtain ⟨k', hk', e⟩ := ih h'
      exact ⟨k', List.mem_cons_of_mem _ hk', e⟩

/-! ## Levels -/

/-- Departures lie lowest, then the barrier, the arrival of a share, the arrival of a reduced block. -/
def klev : Kind → ℕ
  | none => 1
  | some (0, _) => 0
  | some (1, _) => 2
  | some (2, _) => 0
  | some (3, _) => 3

def L (g : GSem nD τ sig) : Finset Unit := if g.1.2 = .tc then {()} else ∅
/-- The level of a semaphore; the staging copies' lie lowest. -/
def lv (g : GSem nD τ sig) (_ : Unit) : ℕ := (kindOf g.2).elim 0 klev

theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Key) (u : Unit) : lv (kcell x) u = klev x.2 := by
  show (kindOf (csem x.2)).elim 0 klev = _
  rw [kindOf_csem]; rfl

omit [FloatOps F] in
/-- A device may wait on a semaphore while every cell it owes lies on a higher level. -/
theorem mayWait (c : Dev nD) (sm : SemLoc sig) (l : List Key) (n : ℕ) (hn : lv ((c : Thread nD τ), sm) () ≤ n)
    (hl : ∀ k ∈ l, n < klev k.2) : (levAts L lv : sProp 𝕄) ⊢ MayWait (c : Thread nD τ) sm () (owed l) :=
  MayOwe.of_cut (L := L) (lev := lv) n (fun p hp => by rw [Finset.mem_singleton.mp hp, L_tc]; exact Finset.mem_singleton_self _)
    (fun g u hg => by
      obtain ⟨k, -, rfl⟩ := owed_pos hg
      rw [L_tc]; exact Finset.mem_singleton_self _)
    (fun p hp => by rw [Finset.mem_singleton.mp hp]; exact hn)
    (fun g u hg => by
      obtain ⟨k, hk, rfl⟩ := owed_pos hg
      rw [lv_kcell]; exact hl k hk)

theorem dues_levels (c : Dev nD) : ∀ k ∈ dues c, 0 < klev k.2 := by revert c; decide

omit [FloatOps F] in
/-- The staging copies may be waited for at launch and when nothing is owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  have h : lv ((c : Thread nD τ), .dma q) () ≤ 0 := by
    show (kindOf (.dma q)).elim 0 klev ≤ 0
    rw [kindOf_stage q hq]; exact Nat.le_refl 0
  rcases hO with rfl | rfl
  · exact mayWait c (.dma q) (dues c) 0 h (dues_levels c)
  · exact mayWait c (.dma q) [] 0 h (fun k hk => absurd hk (List.not_mem_nil))

/-! ## The launch credit -/

/-- What the other devices owe a cell together. -/
def credit : Kind → ℕ
  | none => 3
  | some (0, _) => 0
  | some (1, _) => N
  | some (2, _) => 0
  | some (3, _) => N

/-- How often a cell of each kind is listed by all devices together. -/
def listed : Kind → ℕ
  | none => 3
  | some (0, _) => 0
  | some (1, _) => 1
  | some (2, _) => 0
  | some (3, _) => 1

theorem count_dues (y : Key) : ∑ d : Dev nD, (dues d).count y = listed y.2 := by revert y; decide

theorem listed_amt (k : Kind) : listed k * kamt k = credit k := by
  rcases k with _ | ⟨j, r⟩
  · rfl
  · match j with
    | 0 => exact Nat.zero_mul _
    | 1 => exact Nat.one_mul _
    | 2 => exact Nat.zero_mul _
    | 3 => exact Nat.one_mul _

theorem owed_all (y : Key) : ∑ d : Dev nD, O₀ d (kcell y) () = credit y.2 := by
  unfold O₀
  rw [Finset.sum_congr rfl fun d _ => owed_at (dues d) y, ← Finset.sum_mul, count_dues, listed_amt]

omit [FloatOps F] in
theorem launch_at (y : Key) :
    tallyOn (kcell y) (launchCredit (Pipeline.owing O₀) 0 (kcell y)) = (tallyAt (kcell y) () (credit y.2) : CellTallies nD τ sig Unit) := by
  unfold tallyAt; refine congrArg _ (Finsupp.ext fun u => ?_); cases u
  rw [Pipeline.launchCredit_owing, Finsupp.single_eq_same, owed_all]

omit [FloatOps F] in
/-- A device's launch credit covers each of its cells by what is owed to it. -/
theorem creds (c : Dev nD) :
    (Pipeline.launchCred O₀ c : sProp 𝕄) ⊢ bigSep Finset.univ fun k : Kind => cred (tallyAt (kcell (c, k)) () (credit k)) := by
  unfold Pipeline.launchCred
  refine (BI.bigSep_subset (Finset.subset_univ (Finset.univ.map ⟨csem, csem_injective⟩))).trans ?_
  rw [bigSep_map]
  exact bigSep_mono fun k _ => Entails.of_eq (congrArg cred (launch_at (c, k)))

/-! ## Sums over a device's cells -/

omit [FloatOps F] in
/-- A product over the kinds: the barrier's factor, and those of the four kinds at the three distances. -/
theorem bigSep_kind (Φ : Kind → sProp 𝕄) :
    bigSep Finset.univ Φ = iprop(Φ none ∗ bigSep Finset.univ fun j : Fin 4 => bigSep Finset.univ fun r : Fin 3 => Φ (some (j, r))) := by
  rw [bigSep_univ_at Φ none,
    show (Finset.univ : Finset Kind).erase none = Finset.univ.map Function.Embedding.some from by decide,
    bigSep_map, bigSep_univ_prod]
  rfl

end Cert.Swiglu

end
-- ==== Proof.Buffers.lean ====
/-
  The buffers in pieces: a four-slot buffer is its slots, the result is its four blocks of rows; what a load reads and
  a store leaves in a piece.
-/
module

public import proofs.«01_k».proof.Proof.Owed
public import Idealize.ShloMosaic.Lib.Pipeline.Value
public import Idealize.ShloMosaic.Lib.ViewIndex

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots -/

section Slots

variable (M : Memref sig .tc .vmem S4x128x512 .f32)

/-- The elements of a slot, -/
abbrev slotSet (k : Fin 4) : Finset M.view.ty.Idx := (slot M k).view.set
theorem slot_set (k : Fin 4) : slotSet M k = (slotRect k).set.map M.view.emb :=
  (View.set_reshape _ _).trans (View.set_slice _ _)

theorem slot_rects_disjoint (k k' : Fin 4) (h : k ≠ k') : Disjoint (slotRect k).set (slotRect k').set :=
  Ring.lead_disjoint (s := S4x128x512) 0 1 (fun b : Fin 4 => ![b.val, 0, 0]) S1x128x512.size slot_inb
    (fun b => (Nat.one_mul _).symm) rfl k k' h

theorem slot_rects_cover : Finset.univ.biUnion (fun k : Fin 4 => (slotRect k).set) = Finset.univ :=
  Ring.lead_cover (s := S4x128x512) 0 1 (fun b : Fin 4 => ![b.val, 0, 0]) S1x128x512.size slot_inb
    (fun b => (Nat.one_mul _).symm) (by decide) rfl (by decide) rfl

theorem slots_disjoint (k k' : Fin 4) (h : k ≠ k') : Disjoint (slotSet M k) (slotSet M k') := by
  rw [slot_set, slot_set]; exact (Finset.disjoint_map _).mpr (slot_rects_disjoint k k' h)

theorem slots_cover (hM : M.view.set = Finset.univ) (i : M.view.ty.Idx) : ∃ k : Fin 4, i ∈ slotSet M k := by
  have hi : i ∈ M.view.set := by rw [hM]; exact Finset.mem_univ i
  obtain ⟨x, -, rfl⟩ := Finset.mem_map.mp hi
  have hx : x ∈ Finset.univ.biUnion (fun k : Fin 4 => (slotRect k).set) := by rw [slot_rects_cover]; exact Finset.mem_univ x
  obtain ⟨k, -, hk⟩ := Finset.mem_biUnion.mp hx
  exact ⟨k, by rw [slot_set]; exact Finset.mem_map_of_mem _ hk⟩

omit [FloatOps F] in
/-- A four-slot buffer is its four slots, -/
theorem slots_split (hM : M.view.set = Finset.univ) (c : Dev nD) (f : Buf (Elt F) (M.view.loc (c : Thread nD τ))) :
    (M.view.loc (c : Thread nD τ) ↦{fullShare} f : sProp 𝕄)
      = bigSep Finset.univ fun k : Fin 4 => M.view.loc (c : Thread nD τ) ↦[(slot M k).view.set]{fullShare} f :=
  Ring.pointsTo_blocks (Ix := Unit) (Name := ℕ) (U := UU) (Lvl := ℕ) (Val := Elt F) (q := fullShare) (ℓ := M.view.loc (c : Thread nD τ)) (slotSet M) (slots_disjoint M)
    (Finset.eq_univ_iff_forall.mpr fun i => Finset.mem_biUnion.mpr ((slots_cover M hM i).imp fun k h => ⟨Finset.mem_univ k, h⟩)) f

omit [FloatOps F] in
/-- and slots at contents of their own make up the buffer at some contents. -/
theorem slots_join (hM : M.view.set = Finset.univ) (c : Dev nD) (f₀ : Buf (Elt F) (M.view.loc (c : Thread nD τ))) :
    bigSep Finset.univ (fun k : Fin 4 => iprop(∃ f : Buf (Elt F) (M.view.loc (c : Thread nD τ)), M.view.loc (c : Thread nD τ) ↦[(slot M k).view.set]{fullShare} f))
      ⊢ (iprop(∃ g : Buf (Elt F) (M.view.loc (c : Thread nD τ)), M.view.loc (c : Thread nD τ) ↦{fullShare} g) : sProp 𝕄) :=
  Ring.pointsTo_blocks_join_exists (Ix := Unit) (Name := ℕ) (U := UU) (Lvl := ℕ) (Val := Elt F) (q := fullShare) (ℓ := M.view.loc (c : Thread nD τ)) (slotSet M) (slots_disjoint M)
    (Finset.eq_univ_iff_forall.mpr fun i => Finset.mem_biUnion.mpr ((slots_cover M hM i).imp fun k h => ⟨Finset.mem_univ k, h⟩)) f₀

/-- A load of a slot's elements touches that slot only, -/
theorem slot_load_set (k : Fin 4) : M.view.setOn (slotRect k).toLoadRect.set ⊆ slotSet M k := by
  rw [slot_set]; exact Finset.Subset.refl _
/-- and so does a store. -/
theorem slot_store_set (k : Fin 4) : (M.access (slotRect k)).setOn Finset.univ ⊆ slotSet M k := by
  rw [slot_set]; exact Finset.Subset.trans (View.setOn_univ _).le (View.set_slice _ _).le

/-- A slot that holds `v` is loaded as `v` laid out as a slot. -/
theorem slot_load (k : Fin 4) (f : M.view.ty.Contents (Elt F)) :
    M.view.readAt (Elt F) (slotRect k).toLoadRect f = asSlot ((slot M k).view.read (Elt F) f) := by
  rw [Memref.read_squeeze_slice M (slotRect k) (fun _ => rfl) squeezes_S1x128x512_S128x512 shapeCasts_S1x128x512_S128x512 f]
  exact (shapeCast_shapeCast _ _ _).symm

/-- A slot that `v` was stored to, laid out as a slot, holds `v`. -/
theorem slot_store (k : Fin 4) (f : M.view.ty.Contents (Elt F)) (v : Vec F S128x512 .f32) :
    (slot M k).view.read (Elt F) ((M.access (slotRect k)).write (Elt F) f (asSlot v) Finset.univ) = v := by
  rw [Memref.read_squeeze_slice M (slotRect k) (fun _ => rfl) squeezes_S1x128x512_S128x512 shapeCasts_S1x128x512_S128x512 _]
  refine (congrArg (fun w => shapeCast S128x512 w _) (View.read_write_univ (v := M.access (slotRect k)) f (asSlot v))).trans ?_
  exact shapeCast_shapeCast _ _ _

end Slots

/-! ## Blocks of rows -/

/-- The elements of a block of rows. -/
abbrev blockSet (b : Fin 4) : Finset (cc0_stg4_0 : Ref sig .tc).ty.Idx := (block b).view.set
theorem block_set (b : Fin 4) : blockSet b = (rowRect b).set.map oM.view.emb := View.set_slice _ _

theorem blocks_disjoint (b b' : Fin 4) (h : b ≠ b') : Disjoint (blockSet b) (blockSet b') := by
  rw [block_set, block_set]
  exact (Finset.disjoint_map _).mpr (Ring.lead_disjoint (s := S512x512) 0 128 (fun b : Fin 4 => ![128 * b.val, 0]) S128x512.size row_inb
    (fun _ => rfl) rfl b b' h)

theorem blocks_cover (i : (cc0_stg4_0 : Ref sig .tc).ty.Idx) : ∃ b : Fin 4, i ∈ blockSet b := by
  have hi : i ∈ Finset.univ.biUnion (fun b : Fin 4 => (rowRect b).set) := by
    rw [Ring.lead_cover (s := S512x512) 0 128 (fun b : Fin 4 => ![128 * b.val, 0]) S128x512.size row_inb
      (fun _ => rfl) (by decide) rfl (by decide) rfl]
    exact Finset.mem_univ _
  obtain ⟨b, -, hb⟩ := Finset.mem_biUnion.mp hi
  exact ⟨b, by rw [block_set]; exact Finset.mem_map.mpr ⟨i, hb, rfl⟩⟩

omit [FloatOps F] in
/-- The result's buffer is its four blocks. -/
theorem blocks_split (c : Dev nD) (f : Buf (Elt F) (oM.view.loc (c : Thread nD τ))) :
    (oM.view.loc (c : Thread nD τ) ↦{fullShare} f : sProp 𝕄)
      = bigSep Finset.univ fun b : Fin 4 => oM.view.loc (c : Thread nD τ) ↦[blockSet b]{fullShare} f :=
  Ring.pointsTo_blocks (Ix := Unit) (Name := ℕ) (U := UU) (Lvl := ℕ) (Val := Elt F) (q := fullShare) (ℓ := oM.view.loc (c : Thread nD τ)) blockSet blocks_disjoint
    (Finset.eq_univ_iff_forall.mpr fun i => Finset.mem_biUnion.mpr ((blocks_cover i).imp fun b h => ⟨Finset.mem_univ b, h⟩)) f

theorem block_load_set (b : Fin 4) : oM.view.setOn (rowRect b).toLoadRect.set ⊆ blockSet b := by
  rw [block_set]; exact Finset.Subset.refl _
theorem block_store_set (b : Fin 4) : (oM.access (rowRect b)).setOn Finset.univ ⊆ blockSet b :=
  (View.setOn_univ _).le

variable (m : (ℓ : Loc nD τ sig) → Buf (Elt F) ℓ)

/-- A block that reads as block `b` reduced holds the result there. -/
theorem done_of_read (c : Dev nD) (b : Fin 4) (q : PosShare TreeShare) (g : Buf (Elt F) ((block b).view.loc (c : Thread nD τ)))
    (hg : (block b).view.read (Elt F) g = red m b) :
    ((block b).view.loc (c : Thread nD τ) ↦[(block b).view.set]{q} g : sProp 𝕄) ⊢ blockDone m c b q := by
  unfold blockDone
  refine Entails.of_eq (pointsTo_congr fun i hi => ?_)
  obtain ⟨x, -, rfl⟩ := Finset.mem_map.mp hi
  refine View.eq_of_read_eq (v := (block b).view) (f := g) (g := OUT m) ?_
  rw [hg, ← rows_OUT]
  rfl

/-- Reading a block of the result gives the block reduced. -/
theorem read_OUT (b : Fin 4) : (block b).view.read (Elt F) (OUT m) = red m b := rows_OUT m b

/-- A block held at the result reads as block `b` reduced. -/
theorem done_open (c : Dev nD) (b : Fin 4) (q : PosShare TreeShare) :
    blockDone m c b q ⊢ (iprop(∃ f : Buf (Elt F) ((block b).view.loc (c : Thread nD τ)),
      ⌜(block b).view.read (Elt F) f = red m b⌝ ∗ (block b).view.loc (c : Thread nD τ) ↦[(block b).view.set]{q} f) : sProp 𝕄) := by
  unfold blockDone
  iintro H
  iexists (OUT m)
  isplitr
  · ipureintro; exact read_OUT m b
  · iexact H

omit [FloatOps F] in
/-- What is held at a value is held at some contents that read as it. -/
theorem owns_open (c : Dev nD) (M : Memref sig .tc .vmem S128x512 .f32) (v : Vec F S128x512 .f32) :
    (owns (c : Thread nD τ) M fullShare v : sProp 𝕄) ⊢ iprop(∃ f : Buf (Elt F) (M.view.loc (c : Thread nD τ)),
      ⌜M.view.read (Elt F) f = v⌝ ∗ M.view.loc (c : Thread nD τ) ↦[M.view.set]{fullShare} f) := Entails.of_eq rfl

/-- A load of rows of `x`, -/
theorem load_rows (b : Fin 4) (f : Vec F S512x512 .f32) : xM.view.readAt (Elt F) (rowRect b).toLoadRect f = rows f b := rfl

theorem zeros : (![0, 0] : Fin 2 → ℕ) = fun _ => 0 := funext fun a => by fin_cases a <;> rfl

end Cert.Swiglu

end
-- ==== Proof.Steps.lean ====
/-
  What each kind of statement of the kernel does to a device's resources: one rule per kind, for any device, distance
  and slot.
-/
module

public import proofs.«01_k».proof.Proof.Buffers

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program run on device `c` ends in `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Key → ℕ)

/-- What every device knows: the invariant of every cell of every device, and that each is at its first round. -/
def records : sProp 𝕄 :=
  iprop((bigSep Finset.univ fun x : Key => cellInv ER (Rd m) (K x) (kcell x))
    ∗ bigSep Finset.univ fun x : Key => reached ER (kcell x) 0)

instance records_persistent : BI.Persistent (records m K) := by unfold records; infer_instance

theorem inv_at (x : Key) : records m K ⊢ cellInv ER (Rd m) (K x) (kcell x) := by
  unfold records
  have h : (bigSep Finset.univ fun x : Key => (cellInv ER (Rd m) (K x) (kcell x) : sProp 𝕄)) ⊢ cellInv ER (Rd m) (K x) (kcell x) :=
    bigSep_elim (Finset.mem_univ x)
  iintro ⟨H, -⟩
  iapply h; iexact H
theorem reached_at (x : Key) : records m K ⊢ reached ER (kcell x) 0 := by
  unfold records
  have h : (bigSep Finset.univ fun x : Key => (reached ER (kcell x) 0 : sProp 𝕄)) ⊢ reached ER (kcell x) 0 :=
    bigSep_elim (Finset.mem_univ x)
  iintro ⟨-, H⟩
  iapply h; iexact H

/-- Device `c` owes the dues `l`. -/
def owing (c : Dev nD) (l : List Key) : sProp 𝕄 := iprop(∃ W : Waits sig Unit, owes (c : Thread nD τ) (owed l) W)

/-- The token of the duty that device `c` pays at the barrier of the device `r` ahead. -/
abbrev barTok (c : Dev nD) (r : Fin 3) : sProp 𝕄 := dutyTok ER (kcell (far c r, none)) 0 (back r)
/-- The token of a copy's cell of device `c`. -/
abbrev cpTok (c : Dev nD) (j : Fin 4) (r : Fin 3) : sProp 𝕄 := dutyTok ER (kcell (c, some (j, r))) 0 (0 : Fin 3)
/-- Device `c` stands before (`R = 0`) or after (`R = 1`) the wait on one of its cells. -/
abbrev pos (c : Dev nD) (k : Kind) (R : ℕ) : sProp 𝕄 := atPos ER (kcell (c, k)) R (∅ : Finset (Fin 3)) 0
/-- The credit for the wait on a copy's cell. -/
abbrev cpCred (c : Dev nD) (j : Fin 4) (r : Fin 3) : sProp 𝕄 := cred (tallyAt (kcell (c, some (j, r))) () N)

/-! ## Signals and waits -/

/-- A signal to the device `r` ahead hands over this device's slot for it and the rows it is to fill. -/
theorem step_signal (c n : Dev nD) (r : Fin 3) (hn : n = far c r) (u : ℤ) (hu : u = ((1 : ℕ) : ℤ)) (l : List Key)
    {α : Type} {k : PUnit → Prog (TpuEff nD τ sig (Elt F) Λ₀ .tc) α} {Q : α → sProp 𝕄} :
    iprop(records m K ∗ owing c ((far c r, none) :: l) ∗ barTok c r ∗ slotFree c (slotNo r) ∗ blockFree c (far c r))
      ⊢ iprop((owing c l -∗ Runs c (k ⟨⟩) Q) -∗ Runs c (.op (.semSignal (n : Thread nD τ) barS u) k) Q) := by
  subst hn hu
  unfold owing
  iintro ⟨#HR, ⟨%W, HO⟩, Ht, Hs, Hb⟩
  iintro Hk
  iapply (Rounds.wp_signal 𝒱₀ ER (Rd m) (c : Thread nD τ) none (dst := (far c r : Thread nD τ)) (κ := K (far c r, none)) (r := 0) (d := back r) (k' := 1)
    (mem_bar m (far c r) (back r)) (amount_at m (far c r, none) (back r)) () (O₀ := owed ((far c r, none) :: l)) (owed l) rfl) $$ [HO Ht Hs Hb]
  · isplitr; · iapply (inv_at m K (far c r, none)); iexact HR
    isplitl [HO]; · iexact HO
    isplitl [Ht]; · iexact Ht
    isplitl [Hs Hb]
    · iapply (Entails.of_eq (show iprop(slotFree c (slotNo r) ∗ blockFree c (far c r)) = (Rd m).payload (kcell (far c r, none)) 0 (back r) from by
        rw [payload_at]; show _ = barPay (far c r) (back r); unfold barPay; rw [far_back, back_back]))
      isplitl [Hs] <;> iassumption
    · iapply (reached_at m K (far c r, none)); iexact HR
  iintro HO
  iapply Hk; iexists W; iexact HO

/-- The wait on the barrier receives every peer's slot and rows. -/
theorem step_barrier (c : Dev nD) (u : ℤ) (hu : u = ((3 : ℕ) : ℤ)) (l : List Key) (hl : ∀ k ∈ l, 1 < klev k.2)
    {α : Type} {k : PUnit → Prog (TpuEff nD τ sig (Elt F) Λ₀ .tc) α} {Q : α → sProp 𝕄} :
    iprop(records m K ∗ levAts L lv ∗ cred (tallyAt (kcell (c, none)) () 3) ∗ owing c l ∗ pos c none 0)
      ⊢ iprop(((owing c l ∗ pos c none 1 ∗ barPay c 0 ∗ barPay c 1 ∗ barPay c 2) -∗ Runs c (k ⟨⟩) Q)
          -∗ Runs c (.op (.semWait barS u) k) Q) := by
  subst hu
  unfold owing
  iintro ⟨#HR, #Hlev, Hc, ⟨%W, HO⟩, Hat⟩
  iintro Hk
  iapply (Rounds.wp_wait_rest_token 𝒱₀ ER (Rd m) (c : Thread nD τ) none (κ := K (c, none))
      (wpE_semWait_eq 𝒱₀ (c : Thread nD τ) none Set.univ) (Set.mem_univ _) () (O := owed l) (W := W) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait c (csem none) l 1 (lv_kcell (c, none) ()).le hl); iexact Hlev
    iexact Hat
  iintro ⟨HO, Hat, -, Hp⟩
  iapply Hk
  isplitl [HO]; · iexists _; iexact HO
  isplitl [Hat]; · iexact Hat
  iapply (Entails.of_eq (rest_bar m c)); iexact Hp

/-- A wait on a copy's semaphore receives what the copy hands over: the source back, or the filled destination. -/
theorem step_wait (c : Dev nD) (j : Fin 4) (r : Fin 3) (l : List Key) (hl : ∀ k ∈ l, klev (some (j, r)) < klev k.2)
    {sem : DmaSem sig} (hsem : sem = dsem j r)
    {s s' : Shape} {e e' : EltTy} {sp sp' : Space} {src : Memref sig .tc sp' s' e'} {dst : Memref sig .tc sp s e}
    {hsrc : src.view.WordExact} {hdst : dst.view.WordExact} (hN : dst.view.dmaCredit = N)
    {α : Type} {k : PUnit → Prog (TpuEff nD τ sig (Elt F) Λ₀ .tc) α} {Q : α → sProp 𝕄} :
    iprop(records m K ∗ levAts L lv ∗ cpCred c j r ∗ owing c l ∗ pos c (some (j, r)) 0)
      ⊢ iprop(((owing c l ∗ pos c (some (j, r)) 1 ∗ copyPay m c j r) -∗ Runs c (k ⟨⟩) Q)
          -∗ Runs c (.op (.waitDma2 sem src dst hsrc hdst) k) Q) := by
  subst hsem
  unfold owing cpCred
  rw [← hN]
  iintro ⟨#HR, #Hlev, Hc, ⟨%W, HO⟩, Hat⟩
  iintro Hk
  iapply (Rounds.wp_wait_rest_token 𝒱₀ ER (Rd m) (c : Thread nD τ) none (κ := K (c, some (j, r)))
      (wpE_waitDma2_eq 𝒱₀ (c : Thread nD τ) none Set.univ) (Set.mem_univ _) () (O := owed l) (W := W) (R := 0) (m := 0) (T := ∅)
      (by rw [Nat.zero_add, hN]; exact (expect_copy m c (j, r)).symm)) $$ [Hc HO Hat]
  · isplitr; · iapply (inv_at m K (c, some (j, r))); iexact HR
    isplitl [Hc]; · iexact Hc
    isplitl [HO]; · iexact HO
    isplitr; · iapply (mayWait c (csem (some (j, r))) l _ (lv_kcell (c, some (j, r)) ()).le hl); iexact Hlev
    iexact Hat
  iintro ⟨HO, Hat, -, Hp⟩
  iapply Hk
  isplitl [HO]; · iexists _; iexact HO
  isplitl [Hat]; · iexact Hat
  iapply (Entails.of_eq (rest_copy m c j r)); iexact Hp

/-! ## Remote copies -/

/-- A copy to the device `r` ahead: its source is handed to the departure cell, its filled destination to the arrival
    cell there. -/
theorem step_copy (c n : Dev nD) (r : Fin 3) (hn : n = far c r) (j j' : Fin 4) (l : List Key)
    {sS sV : DmaSem sig} (hS : sS = dsem j r) (hV : sV = dsem j' (back r))
    {src dst : Memref sig .tc .vmem S128x512 .f32} {hsc : dst.view.ref.isScScratch = false}
    {hsrc : src.view.WordExact} {hdst : dst.view.WordExact}
    {hsem : DmaTarget.Typed .vmem (.dma sV) (.remote (Dev.tc n : Thread nD τ) dst (.dma sS) hsc)}
    (hN : dst.view.dmaCredit = N) {q : PosShare TreeShare}
    (fs : Buf (Elt F) (src.view.loc (c : Thread nD τ))) (fd : Buf (Elt F) (dst.view.loc (far c r : Thread nD τ)))
    (hpay : (src.view.loc (c : Thread nD τ) ↦[src.view.set]{q} fs : sProp 𝕄) ⊢ copyPay m c j r)
    (hpay' : (dst.view.loc (far c r : Thread nD τ) ↦[dst.view.set]{fullShare} (dst.view.write (Elt F) fd (src.view.read (Elt F) fs) Finset.univ) : sProp 𝕄)
      ⊢ copyPay m (far c r) j' (back r))
    {α : Type} {k : PUnit → Prog (TpuEff nD τ sig (Elt F) Λ₀ .tc) α} {Q : α → sProp 𝕄} :
    iprop(records m K ∗ (src.view.loc (c : Thread nD τ) ↦[src.view.set]{q} fs) ∗ (dst.view.loc (far c r : Thread nD τ) ↦[dst.view.set]{fullShare} fd)
        ∗ owing c ((far c r, some (j', back r)) :: l) ∗ cpTok c j r ∗ cpTok (far c r) j' (back r))
      ⊢ iprop(((cpCred c j r ∗ owing c l) -∗ Runs c (k ⟨⟩) Q)
          -∗ Runs c (.op (.enqueueDma src (.remote (Dev.tc n : Thread nD τ) dst (.dma sS) hsc) (.dma sV) hsrc hdst hsem) k) Q) := by
  subst hn hS hV
  unfold owing cpCred
  iintro ⟨#HR, Hs, Hd, ⟨%W, HO⟩, Ht, Ht'⟩
  iintro Hk
  iapply (Rounds.wp_send_pointsTo 𝒱₀ ER (Rd m) (c : Thread nD τ) none (κ₁ := K (c, some (j, r))) (κ₂ := K (far c r, some (j', back r)))
    (r₁ := 0) (r₂ := 0) (d₁ := 0) (d₂ := 0) (fd := fd) (fs := fs) (q := q)
    (mem_copy m c (j, r)) (mem_copy m (far c r) (j', back r)) () () N hN
    (amount_at m (c, some (j, r)) 0) (amount_at m (far c r, some (j', back r)) 0) (owed l) rfl (W := W)
    (hpay.trans (Entails.of_eq (payload_at m (c, some (j, r)) 0).symm))
    (hpay'.trans (Entails.of_eq (payload_at m (far c r, some (j', back r)) 0).symm))) $$ [Hs Hd HO Ht Ht']
  · isplitr; · iapply (inv_at m K (c, some (j, r))); iexact HR
    isplitr; · iapply (inv_at m K (far c r, some (j', back r))); iexact HR
    isplitl [Hs]; · iexact Hs
    isplitl [Hd]; · iexact Hd
    isplitl [HO]; · iexact HO
    isplitl [Ht]; · iexact Ht
    isplitr; · iapply (reached_at m K (c, some (j, r))); iexact HR
    isplitl [Ht']; · iexact Ht'
    iapply (reached_at m K (far c r, some (j', back r))); iexact HR
  iintro ⟨Hc, HO⟩
  iapply Hk
  isplitl [Hc]; · iexact Hc
  iexists W; iexact HO

theorem credit_slot (M : Memref sig .tc .vmem S4x128x512 .f32) (k : Fin 4) : (slot M k).view.dmaCredit = N := rfl
theorem credit_block (b : Fin 4) : (block b).view.dmaCredit = N := rfl

/-- The copy of a share to the device `r` ahead. -/
theorem step_share (c n : Dev nD) (r : Fin 3) (hn : n = far c r) (l : List Key)
    {sS sV : DmaSem sig} (hS : sS = dsem 0 r) (hV : sV = dsem 1 (back r))
    {src dst : Memref sig .tc .vmem S128x512 .f32} (hs : src = slot sM (slotNo r)) (hd : dst = slot rM (slotNo (back r)))
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {k : PUnit → Prog (TpuEff nD τ sig (Elt F) Λ₀ .tc) α} {Q : α → sProp 𝕄} :
    iprop(records m K ∗ owns (c : Thread nD τ) (slot sM (slotNo r)) fullShare (contrib m c (far c r)) ∗ slotFree (far c r) (slotNo (back r))
        ∗ owing c ((far c r, some (1, back r)) :: l) ∗ cpTok c 0 r ∗ cpTok (far c r) 1 (back r))
      ⊢ iprop(((cpCred c 0 r ∗ owing c l) -∗ Runs c (k ⟨⟩) Q)
          -∗ Runs c (.op (.enqueueDma src (.remote (Dev.tc n : Thread nD τ) dst (.dma sS) hsc) (.dma sV) hsrc hdst hsem) k) Q) := by
  subst hs hd
  unfold slotFree
  iintro ⟨#HR, Hs, ⟨%fd, Hd⟩, HO, Ht, Ht'⟩
  ihave Hs := (owns_open c (slot sM (slotNo r)) (contrib m c (far c r))) $$ Hs
  icases Hs with ⟨%fs, %hfs, Hs⟩
  iapply (step_copy m K c n r hn 0 1 l hS hV (credit_slot rM (slotNo (back r))) fs fd
    (by
      show _ ⊢ owns (c : Thread nD τ) (slot sM (slotNo r)) fullShare (contrib m c (far c r))
      rw [← hfs]; exact owns_intro (c : Thread nD τ) (slot sM (slotNo r)) fullShare fs)
    (by
      show _ ⊢ owns (far c r : Thread nD τ) (slot rM (slotNo (back r))) fullShare (contrib m (far (far c r) (back r)) (far c r))
      rw [far_back, hfs]
      refine (owns_intro (far c r : Thread nD τ) (slot rM (slotNo (back r))) fullShare _).trans (Entails.of_eq ?_)
      rw [View.read_write_univ]))
  isplitr; · iexact HR
  isplitl [Hs]; · iexact Hs
  isplitl [Hd]; · iexact Hd
  isplitl [HO]; · iexact HO
  isplitl [Ht] <;> iassumption

/-- The copy of the reduced block to the device `r` ahead. -/
theorem step_block (c n : Dev nD) (r : Fin 3) (hn : n = far c r) (l : List Key)
    {sS sV : DmaSem sig} (hS : sS = dsem 2 r) (hV : sV = dsem 3 (back r))
    {src dst : Memref sig .tc .vmem S128x512 .f32} (hs : src = block c) (hd : dst = block c)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {k : PUnit → Prog (TpuEff nD τ sig (Elt F) Λ₀ .tc) α} {Q : α → sProp 𝕄} :
    iprop(records m K ∗ blockDone m c c (Ring.shares3 fullShare r) ∗ blockFree (far c r) c
        ∗ owing c ((far c r, some (3, back r)) :: l) ∗ cpTok c 2 r ∗ cpTok (far c r) 3 (back r))
      ⊢ iprop(((cpCred c 2 r ∗ owing c l) -∗ Runs c (k ⟨⟩) Q)
          -∗ Runs c (.op (.enqueueDma src (.remote (Dev.tc n : Thread nD τ) dst (.dma sS) hsc) (.dma sV) hsrc hdst hsem) k) Q) := by
  subst hs hd
  unfold blockFree
  iintro ⟨#HR, Hs, ⟨%fd, Hd⟩, HO, Ht, Ht'⟩
  ihave Hs := (done_open m c c (Ring.shares3 fullShare r)) $$ Hs
  icases Hs with ⟨%fs, %hfs, Hs⟩
  iapply (step_copy m K c n r hn 2 3 l hS hV (credit_block c) fs fd
    (done_of_read m c c (Ring.shares3 fullShare r) fs hfs)
    (by
      show _ ⊢ blockDone m (far c r) (far (far c r) (back r)) fullShare
      rw [far_back]
      exact done_of_read m (far c r) c fullShare _ ((View.read_write_univ _ _).trans hfs)))
  isplitr; · iexact HR
  isplitl [Hs]; · iexact Hs
  isplitl [Hd]; · iexact Hd
  isplitl [HO]; · iexact HO
  isplitl [Ht] <;> iassumption

end Cert.Swiglu

end
-- ==== Proof.Access.lean ====
/-
  The kernel's loads and stores: which value each load reads, and what each store leaves in a slot or a block of rows.
-/
module

public import proofs.«01_k».proof.Proof.Steps

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `c`'s staged inputs: `x` and its parts of the three weights. -/
def inputs (c : Dev nD) : sProp 𝕄 :=
  iprop((((c : Thread nD τ).loc cc0_stg0_0) ↦{fullShare} (X m c)) ∗ (((c : Thread nD τ).loc cc0_stg1_0) ↦{fullShare} (WG m c))
    ∗ (((c : Thread nD τ).loc cc0_stg2_0) ↦{fullShare} (WU m c)) ∗ (((c : Thread nD τ).loc cc0_stg3_0) ↦{fullShare} (WD m c)))

/-- A slot of a four-slot buffer at some contents. -/
def slotAny (M : Memref sig .tc .vmem S4x128x512 .f32) (c : Dev nD) (k : Fin 4) : sProp 𝕄 :=
  iprop(∃ f : Buf (Elt F) ((slot M k).view.loc (c : Thread nD τ)), (slot M k).view.loc (c : Thread nD τ) ↦[(slot M k).view.set]{fullShare} f)

omit [FloatOps F] in
theorem slotFree_eq (c : Dev nD) (k : Fin 4) : (slotFree c k : sProp 𝕄) = slotAny rM c k := rfl

omit [FloatOps F] in
/-- A slot that holds a value is a slot at some contents. -/
theorem slot_any (M : Memref sig .tc .vmem S4x128x512 .f32) (c : Dev nD) (k : Fin 4) (v : Vec F S128x512 .f32) :
    (owns (c : Thread nD τ) (slot M k) fullShare v : sProp 𝕄) ⊢ slotAny M c k := by
  unfold slotAny
  iintro H
  ihave H := (owns_open c (slot M k) v) $$ H
  icases H with ⟨%f, -, H⟩
  iexists f; iexact H

/-! ## The inputs -/

/-- A load of block `b` of the rows of `x`. -/
theorem step_x (c : Dev nD) (b : Fin 4) {off : Fin 2 → ℕ} (h : off = ![128 * b.val, 0])
    {inb : ∀ a, off a + S128x512.size a ≤ S512x512.size a}
    {hl : (xM : Memref sig .tc .vmem S512x512 .f32).view.LoadsAt (Rect.unit (s := S512x512) off S128x512.size inb).toLoadRect}
    {α : Type} {k : Vec F S128x512 .f32 → Prog (TpuEff nD τ sig (Elt F) Λ₀ .tc) α} {Q : α → sProp 𝕄} :
    inputs m c ⊢ iprop((inputs m c -∗ Runs c (k (rows (X m c) b)) Q)
      -∗ Runs c (.op (.load xM (Rect.unit (s := S512x512) off S128x512.size inb).toLoadRect hl) k) Q) := by
  subst h
  unfold inputs
  iintro ⟨H, Hr⟩
  iintro Hk
  iapply (wp_load 𝒱₀ (c : Thread nD τ) none Set.univ (m := xM) (Finset.subset_univ _)) $$ H
  iintro H
  rw [load_rows]
  iapply Hk
  isplitl [H]; · iexact H
  iexact Hr

/-- A load of the gate weight; -/
theorem step_gate (c : Dev nD) {inb : ∀ a, (![0, 0] : Fin 2 → ℕ) a + S512x1024.size a ≤ S512x1024.size a}
    {hl : (gM : Memref sig .tc .vmem S512x1024 .f32).view.LoadsAt (Rect.unit (s := S512x1024) ![0, 0] S512x1024.size inb).toLoadRect}
    {α : Type} {k : Vec F S512x1024 .f32 → Prog (TpuEff nD τ sig (Elt F) Λ₀ .tc) α} {Q : α → sProp 𝕄} :
    inputs m c ⊢ iprop((inputs m c -∗ Runs c (k (WG m c)) Q)
      -∗ Runs c (.op (.load gM (Rect.unit (s := S512x1024) ![0, 0] S512x1024.size inb).toLoadRect hl) k) Q) := by
  unfold inputs
  iintro ⟨H0, H, Hr⟩
  iintro Hk
  iapply (wp_load 𝒱₀ (c : Thread nD τ) none Set.univ (m := gM) (Finset.subset_univ _)) $$ H
  iintro H
  rw [show (gM : Memref sig .tc .vmem S512x1024 .f32).view.readAt (Elt F) (Rect.unit (s := S512x1024) ![0, 0] S512x1024.size inb).toLoadRect (WG m c) = WG m c from
    Memref.readAt_unit_zero (Elt F) cc0_stg1_0 zeros _ _]
  iapply Hk
  isplitl [H0]; · iexact H0
  isplitl [H]; · iexact H
  iexact Hr

/-- of the up weight; -/
theorem step_up (c : Dev nD) {inb : ∀ a, (![0, 0] : Fin 2 → ℕ) a + S512x1024.size a ≤ S512x1024.size a}
    {hl : (uM : Memref sig .tc .vmem S512x1024 .f32).view.LoadsAt (Rect.unit (s := S512x1024) ![0, 0] S512x1024.size inb).toLoadRect}
    {α : Type} {k : Vec F S512x1024 .f32 → Prog (TpuEff nD τ sig (Elt F) Λ₀ .tc) α} {Q : α → sProp 𝕄} :
    inputs m c ⊢ iprop((inputs m c -∗ Runs c (k (WU m c)) Q)
      -∗ Runs c (.op (.load uM (Rect.unit (s := S512x1024) ![0, 0] S512x1024.size inb).toLoadRect hl) k) Q) := by
  unfold inputs
  iintro ⟨H0, H1, H, Hr⟩
  iintro Hk
  iapply (wp_load 𝒱₀ (c : Thread nD τ) none Set.univ (m := uM) (Finset.subset_univ _)) $$ H
  iintro H
  rw [show (uM : Memref sig .tc .vmem S512x1024 .f32).view.readAt (Elt F) (Rect.unit (s := S512x1024) ![0, 0] S512x1024.size inb).toLoadRect (WU m c) = WU m c from
    Memref.readAt_unit_zero (Elt F) cc0_stg2_0 zeros _ _]
  iapply Hk
  isplitl [H0]; · iexact H0
  isplitl [H1]; · iexact H1
  isplitl [H]; · iexact H
  iexact Hr

/-- of the down weight. -/
theorem step_down (c : Dev nD) {inb : ∀ a, (![0, 0] : Fin 2 → ℕ) a + S1024x512.size a ≤ S1024x512.size a}
    {hl : (dM : Memref sig .tc .vmem S1024x512 .f32).view.LoadsAt (Rect.unit (s := S1024x512) ![0, 0] S1024x512.size inb).toLoadRect}
    {α : Type} {k : Vec F S1024x512 .f32 → Prog (TpuEff nD τ sig (Elt F) Λ₀ .tc) α} {Q : α → sProp 𝕄} :
    inputs m c ⊢ iprop((inputs m c -∗ Runs c (k (WD m c)) Q)
      -∗ Runs c (.op (.load dM (Rect.unit (s := S1024x512) ![0, 0] S1024x512.size inb).toLoadRect hl) k) Q) := by
  unfold inputs
  iintro ⟨H0, H1, H2, H⟩
  iintro Hk
  iapply (wp_load 𝒱₀ (c : Thread nD τ) none Set.univ (m := dM) (Finset.subset_univ _)) $$ H
  iintro H
  rw [show (dM : Memref sig .tc .vmem S1024x512 .f32).view.readAt (Elt F) (Rect.unit (s := S1024x512) ![0, 0] S1024x512.size inb).toLoadRect (WD m c) = WD m c from
    Memref.readAt_unit_zero (Elt F) cc0_stg3_0 zeros _ _]
  iapply Hk
  isplitl [H0]; · iexact H0
  isplitl [H1]; · iexact H1
  isplitl [H2]; · iexact H2
  iexact H

/-! ## Slots -/

section Slots

variable (M : Memref sig .tc .vmem S4x128x512 .f32)

/-- A load of a slot at some contents reads some value. -/
theorem step_slot_any (c : Dev nD) (n : Fin 4) {hl : M.view.LoadsAt (slotRect n).toLoadRect}
    {α : Type} {k : Vec F S1x128x512 .f32 → Prog (TpuEff nD τ sig (Elt F) Λ₀ .tc) α} {Q : α → sProp 𝕄} :
    slotAny M c n ⊢ iprop((∀ v, slotAny M c n -∗ Runs c (k v) Q) -∗ Runs c (.op (.load M (slotRect n).toLoadRect hl) k) Q) := by
  unfold slotAny
  iintro ⟨%f, H⟩
  iintro Hk
  iapply (wp_load 𝒱₀ (c : Thread nD τ) none Set.univ (m := M) (slot_load_set M n)) $$ H
  iintro H
  iapply Hk
  iexists f; iexact H

/-- A load of a slot that holds `v` reads `v` laid out as a slot. -/
theorem step_slot_load (c : Dev nD) (n : Fin 4) (v : Vec F S128x512 .f32) {hl : M.view.LoadsAt (slotRect n).toLoadRect}
    {α : Type} {k : Vec F S1x128x512 .f32 → Prog (TpuEff nD τ sig (Elt F) Λ₀ .tc) α} {Q : α → sProp 𝕄} :
    owns (c : Thread nD τ) (slot M n) fullShare v
      ⊢ iprop((owns (c : Thread nD τ) (slot M n) fullShare v -∗ Runs c (k (asSlot v)) Q)
        -∗ Runs c (.op (.load M (slotRect n).toLoadRect hl) k) Q) := by
  iintro H
  ihave H := (owns_open c (slot M n) v) $$ H
  icases H with ⟨%f, %hf, H⟩
  iintro Hk
  iapply (wp_load 𝒱₀ (c : Thread nD τ) none Set.univ (m := M) (slot_load_set M n)) $$ H
  iintro H
  rw [slot_load, hf]
  iapply Hk
  rw [← hf]
  iapply (owns_intro (c : Thread nD τ) (slot M n) fullShare f); iexact H

/-- A store of `v`, laid out as a slot, leaves the slot holding `v`. -/
theorem step_slot_store (c : Dev nD) (n : Fin 4) (v : Vec F S128x512 .f32) (w : Vec F S1x128x512 .f32) (hw : w = asSlot v)
    {hx : (M.access (slotRect n)).Stores Finset.univ} {hm : Finset.univ = Finset.univ ∨ ∀ a, (slotRect n).stride a = 1}
    {α : Type} {k : PUnit → Prog (TpuEff nD τ sig (Elt F) Λ₀ .tc) α} {Q : α → sProp 𝕄} :
    slotAny M c n ⊢ iprop((owns (c : Thread nD τ) (slot M n) fullShare v -∗ Runs c (k ⟨⟩) Q)
      -∗ Runs c (.op (.store M (slotRect n) w Finset.univ hx hm) k) Q) := by
  subst hw
  unfold slotAny
  iintro ⟨%f, H⟩
  iintro Hk
  iapply (wp_store 𝒱₀ (c : Thread nD τ) none Set.univ (m := M) (r := slotRect n) (Mk := Finset.univ) (slot_store_set M n)) $$ H
  iintro H
  iapply Hk
  have h := owns_intro (Ix := Unit) (Name := ℕ) (U := UU) (Lvl := ℕ) (c : Thread nD τ) (slot M n) fullShare
    ((M.access (slotRect n)).write (Elt F) f (asSlot v) Finset.univ)
  rw [slot_store] at h
  iapply h; iexact H

end Slots

/-! ## The own block of the result -/

/-- A load of a block at some contents reads some value. -/
theorem step_block_any (c : Dev nD) (b : Fin 4) {off : Fin 2 → ℕ} (h : off = ![128 * b.val, 0])
    {inb : ∀ a, off a + S128x512.size a ≤ S512x512.size a}
    {hl : (oM : Memref sig .tc .vmem S512x512 .f32).view.LoadsAt (Rect.unit (s := S512x512) off S128x512.size inb).toLoadRect}
    {α : Type} {k : Vec F S128x512 .f32 → Prog (TpuEff nD τ sig (Elt F) Λ₀ .tc) α} {Q : α → sProp 𝕄} :
    blockFree c b ⊢ iprop((∀ v, blockFree c b -∗ Runs c (k v) Q)
      -∗ Runs c (.op (.load oM (Rect.unit (s := S512x512) off S128x512.size inb).toLoadRect hl) k) Q) := by
  subst h
  unfold blockFree
  iintro ⟨%f, H⟩
  iintro Hk
  iapply (wp_load 𝒱₀ (c : Thread nD τ) none Set.univ (m := oM) (block_load_set b)) $$ H
  iintro H
  iapply Hk
  iexists f; iexact H

/-- A store of block `b` reduced to the rows of block `b` leaves the result there. -/
theorem step_block_store (c : Dev nD) (b : Fin 4) {off : Fin 2 → ℕ} (h : off = ![128 * b.val, 0])
    {inb : ∀ a, off a + S128x512.size a ≤ S512x512.size a} (w : Vec F S128x512 .f32) (hw : w = red m b)
    {hx : ((oM : Memref sig .tc .vmem S512x512 .f32).access (Rect.unit (s := S512x512) off S128x512.size inb)).Stores Finset.univ}
    {hm : Finset.univ = Finset.univ ∨ ∀ a, (Rect.unit (s := S512x512) off S128x512.size inb).stride a = 1}
    {α : Type} {k : PUnit → Prog (TpuEff nD τ sig (Elt F) Λ₀ .tc) α} {Q : α → sProp 𝕄} :
    blockFree c b ⊢ iprop((blockDone m c b fullShare -∗ Runs c (k ⟨⟩) Q)
      -∗ Runs c (.op (.store oM (Rect.unit (s := S512x512) off S128x512.size inb) w Finset.univ hx hm) k) Q) := by
  subst h hw
  unfold blockFree
  iintro ⟨%f, H⟩
  iintro Hk
  iapply (wp_store 𝒱₀ (c : Thread nD τ) none Set.univ (m := oM) (r := rowRect b) (Mk := Finset.univ) (block_store_set b)) $$ H
  iintro H
  iapply Hk
  iapply (done_of_read m c b fullShare _ (View.read_write_univ (v := (block b).view) f (red m b))); iexact H

end Cert.Swiglu

end
-- ==== Proof.Shares.lean ====
/-
  The kernel's first half on one device: the handshake at the barrier, then for each distance the share of the block
  that the device there reduces, sent to it; last the own share.
-/
module

public import proofs.«01_k».proof.Proof.Access

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Key → ℕ)

/-- The dues of device `c` after its first `n` payments. -/
abbrev left (c : Dev nD) (n : ℕ) : List Key := (dues c).drop n

theorem left_bar (c : Dev nD) : ∀ k ∈ left c 3, 1 < klev k.2 := by revert c; decide
theorem left_share (c : Dev nD) (r : Fin 3) : ∀ k ∈ left c 6, klev (some (1, r)) < klev k.2 := by revert c r; decide
theorem left_none (c : Dev nD) (j : Fin 4) (r : Fin 3) : ∀ k ∈ left c 9, klev (some (j, r)) < klev k.2 := fun k hk => absurd hk List.not_mem_nil

/-- A finished program hands its value to the continuation. -/
theorem step_ret {c : Dev nD} {α : Type} {a : α} {Q : α → sProp 𝕄} : Q a ⊢ Runs c (.ret a) Q := by
  show _ ⊢ wp frame (wpE (defs₀ (F := F)) 𝒱₀ (c : Thread nD τ) none) Set.univ (.ret a) Q
  rw [wp_ret]
  iintro H
  imodintro
  iexact H

/-! ## Two runs of statements that recur -/

/-- The three loads before a share: block `b` of the rows of `x`, and the first two weights. -/
theorem fetch (c : Dev nD) (b : Fin 4) {off : Fin 2 → ℕ} (h : off = ![128 * b.val, 0])
    {inb : ∀ a, off a + S128x512.size a ≤ S512x512.size a}
    {hl : (xM : Memref sig .tc .vmem S512x512 .f32).view.LoadsAt (Rect.unit (s := S512x512) off S128x512.size inb).toLoadRect}
    {inb' : ∀ a, (![0, 0] : Fin 2 → ℕ) a + S512x1024.size a ≤ S512x1024.size a}
    {hg : (gM : Memref sig .tc .vmem S512x1024 .f32).view.LoadsAt (Rect.unit (s := S512x1024) ![0, 0] S512x1024.size inb').toLoadRect}
    {hu : (uM : Memref sig .tc .vmem S512x1024 .f32).view.LoadsAt (Rect.unit (s := S512x1024) ![0, 0] S512x1024.size inb').toLoadRect}
    {α : Type} {k : Vec F S128x512 .f32 → Vec F S512x1024 .f32 → Vec F S512x1024 .f32 → Prog (TpuEff nD τ sig (Elt F) Λ₀ .tc) α} {Q : α → sProp 𝕄} :
    iprop(inputs m c ∗ (inputs m c -∗ Runs c (k (rows (X m c) b) (WG m c) (WU m c)) Q))
      ⊢ Runs c (.op (.load xM (Rect.unit (s := S512x512) off S128x512.size inb).toLoadRect hl) fun x =>
          .op (.load gM (Rect.unit (s := S512x1024) ![0, 0] S512x1024.size inb').toLoadRect hg) fun g =>
          .op (.load uM (Rect.unit (s := S512x1024) ![0, 0] S512x1024.size inb').toLoadRect hu) fun u => k x g u) Q := by
  iintro ⟨H, Hk⟩
  iapply (step_x m c b h) $$ H; iintro H
  iapply (step_gate m c) $$ H; iintro H
  iapply (step_up m c) $$ H; iintro H
  iapply Hk; iexact H

/-- The rest of a share: the load of the third weight, the store of the share to the send slot of its distance, and the
    copy of that slot to the device there. -/
theorem send (c n : Dev nD) (r : Fin 3) (hn : n = far c r) (l : List Key)
    {inb : ∀ a, (![0, 0] : Fin 2 → ℕ) a + S1024x512.size a ≤ S1024x512.size a}
    {hd : (dM : Memref sig .tc .vmem S1024x512 .f32).view.LoadsAt (Rect.unit (s := S1024x512) ![0, 0] S1024x512.size inb).toLoadRect}
    {hl : (sM : Memref sig .tc .vmem S4x128x512 .f32).view.LoadsAt (slotRect (slotNo r)).toLoadRect}
    {hx : ((sM : Memref sig .tc .vmem S4x128x512 .f32).access (slotRect (slotNo r))).Stores Finset.univ}
    {hm : Finset.univ = Finset.univ ∨ ∀ a, (slotRect (slotNo r)).stride a = 1}
    (P : Vec F S1024x512 .f32 → Vec F S1x128x512 .f32) (hP : P (WD m c) = asSlot (contrib m c (far c r)))
    {hsc : (slot rM (slotNo (back r))).view.ref.isScScratch = false} {hsrc : (slot sM (slotNo r)).view.WordExact}
    {hdst : (slot rM (slotNo (back r))).view.WordExact}
    {hsem : DmaTarget.Typed .vmem (.dma (dsem 1 (back r))) (.remote (Dev.tc n : Thread nD τ) (slot rM (slotNo (back r))) (.dma (dsem 0 r)) hsc)}
    {α : Type} {k : PUnit → Prog (TpuEff nD τ sig (Elt F) Λ₀ .tc) α} {Q : α → sProp 𝕄} :
    iprop((records m K ∗ inputs m c ∗ slotAny sM c (slotNo r) ∗ slotFree (far c r) (slotNo (back r))
        ∗ owing c ((far c r, some (1, back r)) :: l) ∗ cpTok c 0 r ∗ cpTok (far c r) 1 (back r))
        ∗ ((inputs m c ∗ cpCred c 0 r ∗ owing c l) -∗ Runs c (k ⟨⟩) Q))
      ⊢ Runs c (.op (.load dM (Rect.unit (s := S1024x512) ![0, 0] S1024x512.size inb).toLoadRect hd) fun w =>
          .op (.load sM (slotRect (slotNo r)).toLoadRect hl) fun _ =>
          .op (.store sM (slotRect (slotNo r)) (P w) Finset.univ hx hm) fun _ =>
          .op (.enqueueDma (slot sM (slotNo r)) (.remote (Dev.tc n : Thread nD τ) (slot rM (slotNo (back r))) (.dma (dsem 0 r)) hsc)
            (.dma (dsem 1 (back r))) hsrc hdst hsem) k) Q := by
  iintro ⟨⟨#HR, H, Hs, Hf, HO, Ht, Ht'⟩, Hk⟩
  iapply (step_down m c) $$ H; iintro H
  iapply (step_slot_any sM c (slotNo r)) $$ Hs; iintro %v Hs
  iapply (step_slot_store sM c (slotNo r) (contrib m c (far c r)) _ hP) $$ Hs; iintro Hs
  iapply (step_share m K c n r hn l rfl rfl rfl rfl) $$ [Hs Hf HO Ht Ht']
  · isplitr; · iexact HR
    isplitl [Hs]; · iexact Hs
    isplitl [Hf]; · iexact Hf
    isplitl [HO]; · iexact HO
    isplitl [Ht] <;> iassumption
  iintro ⟨Hc, HO⟩
  iapply Hk
  isplitl [H]; · iexact H
  isplitl [Hc] <;> iassumption

/-! ## The parts -/

/-- The handshake: the device signals its three peers and waits for theirs; then the loads for the first share. -/
theorem part1 (c : Dev nD) (Kt : _ → sProp 𝕄) :
    iprop((records m K ∗ levAts L lv ∗ inputs m c ∗ owing c (dues c) ∗ (barTok c 0 ∗ barTok c 1 ∗ barTok c 2)
          ∗ (slotFree c (slotNo 0) ∗ slotFree c (slotNo 1) ∗ slotFree c (slotNo 2)) ∗ (blockFree c (far c 0) ∗ blockFree c (far c 1) ∗ blockFree c (far c 2))
          ∗ cred (tallyAt (kcell (c, none)) () 3) ∗ pos c none 0)
        ∗ (∀ v2 : BitVec 32, ∀ v17 : BitVec 32, (inputs m c ∗ owing c (left c 3) ∗ pos c none 1 ∗ barPay c 0 ∗ barPay c 1 ∗ barPay c 2)
            -∗ Kt ⟨c, v2, v17, k0_pay1 (rows (X m c) (far c 0)), k0_pay2 (rows (X m c) (far c 0)) (WG m c), k0_pay3 (WU m c)⟩))
      ⊢ Runs c (k0_part1 xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5) Kt := by
  rw [k0_part1_eq_skeleton]; unfold k0_part1_skel
  simp only [semSignalWord, semWaitWord, Prog.lift, Prog.bind_op, Prog.bind_ret, Prog.pure_eq_ret, wp_deviceId]
  iintro ⟨⟨#HR, #Hlev, H, HO, ⟨Ht0, Ht1, Ht2⟩, ⟨Hs1, Hs2, Hs3⟩, ⟨Hb0, Hb1, Hb2⟩, Hc, Hat⟩, Hk⟩
  iapply (step_signal m K c _ 0 (Fin.ext (k0_dev1_eq c)) _ rfl (left c 1)) $$ [HO Ht0 Hs1 Hb0]
  · isplitr; · iexact HR
    isplitl [HO]; · iexact HO
    isplitl [Ht0]; · iexact Ht0
    isplitl [Hs1] <;> iassumption
  iintro HO
  iapply (step_signal m K c _ 1 (Fin.ext (k0_dev2_eq c)) _ rfl (left c 2)) $$ [HO Ht1 Hs2 Hb1]
  · isplitr; · iexact HR
    isplitl [HO]; · iexact HO
    isplitl [Ht1]; · iexact Ht1
    isplitl [Hs2] <;> iassumption
  iintro HO
  iapply (step_signal m K c _ 2 (Fin.ext (k0_dev3_eq c)) _ rfl (left c 3)) $$ [HO Ht2 Hs3 Hb2]
  · isplitr; · iexact HR
    isplitl [HO]; · iexact HO
    isplitl [Ht2]; · iexact Ht2
    isplitl [Hs3] <;> iassumption
  iintro HO
  iapply (step_barrier m K c _ rfl (left c 3) (left_bar c)) $$ [HO Hc Hat]
  · isplitr; · iexact HR
    isplitr; · iexact Hlev
    isplitl [Hc]; · iexact Hc
    isplitl [HO] <;> iassumption
  iintro ⟨HO, Hat, Hp⟩
  iapply (fetch m c (far c 0) (k0_off1_eq c 0))
  isplitl [H]; · iexact H
  iintro H
  iapply step_ret
  iapply Hk
  isplitl [H]; · iexact H
  isplitl [HO]; · iexact HO
  isplitl [Hat]; · iexact Hat
  iexact Hp

/-- The first share is sent; the loads for the second. -/
theorem part2 (c : Dev nD) (v2 v17 : BitVec 32) (Kt : _ → sProp 𝕄) :
    iprop((records m K ∗ inputs m c ∗ slotAny sM c (slotNo 0) ∗ slotFree (far c 0) (slotNo (back 0)) ∗ owing c (left c 3)
          ∗ cpTok c 0 0 ∗ cpTok (far c 0) 1 (back 0))
        ∗ (∀ v48 : BitVec 32, (inputs m c ∗ cpCred c 0 0 ∗ owing c (left c 4))
            -∗ Kt ⟨v48, k0_pay5 (rows (X m c) (far c 1)), k0_pay6 (rows (X m c) (far c 1)) (WG m c), k0_pay7 (WU m c),
                constant S128x1024 .f32 0x00000000#32⟩))
      ⊢ Runs c (k0_part2 xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5
          c v2 v17 (k0_pay1 (rows (X m c) (far c 0))) (k0_pay2 (rows (X m c) (far c 0)) (WG m c)) (k0_pay3 (WU m c))) Kt := by
  rw [k0_part2_eq_skeleton]; unfold k0_part2_skel
  simp only [Prog.lift, Prog.bind_op, Prog.bind_ret, Prog.pure_eq_ret]
  iintro ⟨Hpre, Hk⟩
  iapply (send m K c _ 0 (Fin.ext (k0_dev4_eq c)) (left c 4) _ (pay_first _ _ _ _))
  isplitl [Hpre]; · iexact Hpre
  iintro ⟨H, Hc, HO⟩
  iapply (fetch m c (far c 1) (k0_off1_eq c 1))
  isplitl [H]; · iexact H
  iintro H
  iapply step_ret
  iapply Hk
  isplitl [H]; · iexact H
  isplitl [Hc] <;> iassumption

/-- The second share is sent; the loads for the third. -/
theorem part3 (c : Dev nD) (v2 v48 : BitVec 32) (Kt : _ → sProp 𝕄) :
    iprop((records m K ∗ inputs m c ∗ slotAny sM c (slotNo 1) ∗ slotFree (far c 1) (slotNo (back 1)) ∗ owing c (left c 4)
          ∗ cpTok c 0 1 ∗ cpTok (far c 1) 1 (back 1))
        ∗ (∀ v79 : BitVec 32, (inputs m c ∗ cpCred c 0 1 ∗ owing c (left c 5))
            -∗ Kt ⟨v79, k0_pay10 (rows (X m c) (far c 2)) (WG m c), k0_pay11 (rows (X m c) (far c 2)) (WU m c)⟩))
      ⊢ Runs c (k0_part3 xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5
          c v2 v48 (k0_pay5 (rows (X m c) (far c 1))) (k0_pay6 (rows (X m c) (far c 1)) (WG m c)) (k0_pay7 (WU m c))
          (constant S128x1024 .f32 0x00000000#32)) Kt := by
  rw [k0_part3_eq_skeleton]; unfold k0_part3_skel
  simp only [Prog.lift, Prog.bind_op, Prog.bind_ret, Prog.pure_eq_ret]
  iintro ⟨Hpre, Hk⟩
  iapply (send m K c _ 1 (Fin.ext (k0_dev5_eq c)) (left c 5) _ (pay_second _ _ _ _))
  isplitl [Hpre]; · iexact Hpre
  iintro ⟨H, Hc, HO⟩
  iapply (fetch m c (far c 2) (k0_off1_eq c 2))
  isplitl [H]; · iexact H
  iintro H
  iapply step_ret
  iapply Hk
  isplitl [H]; · iexact H
  isplitl [Hc] <;> iassumption

/-- The third share is sent; the loads for the own share. -/
theorem part4 (c : Dev nD) (v2 v79 : BitVec 32) (Kt : _ → sProp 𝕄) :
    iprop((records m K ∗ inputs m c ∗ slotAny sM c (slotNo 2) ∗ slotFree (far c 2) (slotNo (back 2)) ∗ owing c (left c 5)
          ∗ cpTok c 0 2 ∗ cpTok (far c 2) 1 (back 2))
        ∗ ((inputs m c ∗ cpCred c 0 2 ∗ owing c (left c 6)) -∗ Kt (k0_pay13 (rows (X m c) c) (WG m c) (WU m c))))
      ⊢ Runs c (k0_part4 xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5
          c v2 v79 (k0_pay10 (rows (X m c) (far c 2)) (WG m c)) (k0_pay11 (rows (X m c) (far c 2)) (WU m c))) Kt := by
  rw [k0_part4_eq_skeleton]; unfold k0_part4_skel
  simp only [Prog.lift, Prog.bind_op, Prog.bind_ret, Prog.pure_eq_ret]
  iintro ⟨Hpre, Hk⟩
  iapply (send m K c _ 2 (Fin.ext (k0_dev6_eq c)) (left c 6) _ (pay_third _ _ _ _))
  isplitl [Hpre]; · iexact Hpre
  iintro ⟨H, Hc, HO⟩
  iapply (fetch m c c (k0_off2_eq c))
  isplitl [H]; · iexact H
  iintro H
  iapply step_ret
  iapply Hk
  isplitl [H]; · iexact H
  isplitl [Hc] <;> iassumption

end Cert.Swiglu

end
-- ==== Proof.Gather.lean ====
/-
  The kernel's second half on one device: the three received shares are added to the own one, the reduced block is
  copied to every peer, and the device waits for its peers' blocks and for the departure of everything it has sent.
-/
module

public import proofs.«01_k».proof.Proof.Shares

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Key → ℕ)

/-! ## Waiting for a copy -/

/-- What a wait for a copy needs: the credit of the copy and the waiter's place before the only round. -/
def pending (c : Dev nD) (j : Fin 4) (r : Fin 3) : sProp 𝕄 := iprop(cpCred (F := F) c j r ∗ pos c (some (j, r)) 0)

/-- What it leaves: the place after that round, and what the copy hands over. -/
def landed (c : Dev nD) (j : Fin 4) (r : Fin 3) : sProp 𝕄 := iprop(pos c (some (j, r)) 1 ∗ copyPay m c j r)

/-- Every copy here moves one block, and so has the same credit. -/
theorem credit_any (dst : Memref sig .tc .vmem S128x512 .f32) : dst.view.dmaCredit = N := rfl

/-- The own share and the three received ones add to the reduced block. -/
theorem red_eq (b : Fin 4) : k0_pay15 (contrib m b b) (asSlot (contrib m (far b 0) b)) (asSlot (contrib m (far b 1) b))
    (asSlot (contrib m (far b 2) b)) = red m b := rfl

/-- The own share, as the kernel computes it. -/
theorem own_eq (c : Dev nD) : k0_pay14 (k0_pay13 (rows (X m c) c) (WG m c) (WU m c)) (WD m c) = contrib m c c := rfl

/-- A wait turns a pending copy into a landed one. -/
theorem await (c : Dev nD) (j : Fin 4) (r : Fin 3) (l : List Key) (hl : ∀ k ∈ l, klev (some (j, r)) < klev k.2)
    {sem : DmaSem sig} (hsem : sem = dsem j r)
    {src dst : Memref sig .tc .vmem S128x512 .f32} {hsrc : src.view.WordExact} {hdst : dst.view.WordExact}
    {α : Type} {k : PUnit → Prog (TpuEff nD τ sig (Elt F) Λ₀ .tc) α} {Q : α → sProp 𝕄} :
    iprop((records m K ∗ levAts L lv ∗ owing c l ∗ pending c j r) ∗ ((owing c l ∗ landed m c j r) -∗ Runs c (k ⟨⟩) Q))
      ⊢ Runs c (.op (.waitDma2 sem src dst hsrc hdst) k) Q := by
  unfold pending landed
  iintro ⟨⟨#HR, #Hlev, HO, Hc, Hat⟩, Hk⟩
  iapply (step_wait m K c j r l hl hsem (credit_any dst)) $$ [HO Hc Hat]
  · isplitr; · iexact HR
    isplitr; · iexact Hlev
    isplitl [Hc]; · iexact Hc
    isplitl [HO]; · iexact HO
    iassumption
  iexact Hk

/-! ## The parts -/

/-- The own share, and the first two shares received. -/
theorem part5 (c : Dev nD) (v2 : BitVec 32) (Kt : _ → sProp 𝕄) :
    iprop((records m K ∗ levAts L lv ∗ inputs m c ∗ owing c (left c 6) ∗ pending c 1 0 ∗ pending c 1 1)
        ∗ ((inputs m c ∗ owing c (left c 6) ∗ landed m c 1 0 ∗ landed m c 1 1) -∗ Kt (contrib m c c)))
      ⊢ Runs c (k0_part5 xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5
          v2 (k0_pay13 (rows (X m c) c) (WG m c) (WU m c))) Kt := by
  rw [k0_part5_eq_skeleton]; unfold k0_part5_skel
  simp only [Prog.lift, Prog.bind_op, Prog.bind_ret, Prog.pure_eq_ret]
  iintro ⟨⟨#HR, #Hlev, H, HO, H0, H1⟩, Hk⟩
  iapply (step_down m c) $$ H; iintro H
  iapply (await m K c 1 0 (left c 6) (left_share c 0) rfl)
  isplitl [HO H0]
  · isplitr; · iexact HR
    isplitr; · iexact Hlev
    isplitl [HO]; · iexact HO
    iassumption
  iintro ⟨HO, H0⟩
  iapply (await m K c 1 1 (left c 6) (left_share c 1) rfl)
  isplitl [HO H1]
  · isplitr; · iexact HR
    isplitr; · iexact Hlev
    isplitl [HO]; · iexact HO
    iassumption
  iintro ⟨HO, H1⟩
  rw [own_eq]
  iapply step_ret
  iapply Hk
  isplitl [H]; · iexact H
  isplitl [HO]; · iexact HO
  isplitl [H0] <;> iassumption

/-- The three received shares are read from their slots, which stay as they are. -/
theorem read_slots (c : Dev nD)
    {h1 : (rM : Memref sig .tc .vmem S4x128x512 .f32).view.LoadsAt (slotRect 1).toLoadRect}
    {h2 : (rM : Memref sig .tc .vmem S4x128x512 .f32).view.LoadsAt (slotRect 2).toLoadRect}
    {h3 : (rM : Memref sig .tc .vmem S4x128x512 .f32).view.LoadsAt (slotRect 3).toLoadRect}
    {α : Type} {k : Vec F S1x128x512 .f32 → Vec F S1x128x512 .f32 → Vec F S1x128x512 .f32 → Prog (TpuEff nD τ sig (Elt F) Λ₀ .tc) α}
    {Q : α → sProp 𝕄} :
    iprop((landed m c 1 0 ∗ landed m c 1 1 ∗ landed m c 1 2)
        ∗ ((landed m c 1 0 ∗ landed m c 1 1 ∗ landed m c 1 2)
            -∗ Runs c (k (asSlot (contrib m (far c 0) c)) (asSlot (contrib m (far c 1) c)) (asSlot (contrib m (far c 2) c))) Q))
      ⊢ Runs c (.op (.load rM (slotRect 1).toLoadRect h1) fun a => .op (.load rM (slotRect 2).toLoadRect h2) fun b =>
          .op (.load rM (slotRect 3).toLoadRect h3) fun d => k a b d) Q := by
  unfold landed copyPay
  iintro ⟨⟨⟨P0, H0⟩, ⟨P1, H1⟩, ⟨P2, H2⟩⟩, Hk⟩
  iapply (step_slot_load rM c (slotNo 0) (contrib m (far c 0) c)) $$ H0; iintro H0
  iapply (step_slot_load rM c (slotNo 1) (contrib m (far c 1) c)) $$ H1; iintro H1
  iapply (step_slot_load rM c (slotNo 2) (contrib m (far c 2) c)) $$ H2; iintro H2
  iapply Hk
  isplitl [P0 H0]; · isplitl [P0] <;> iassumption
  isplitl [P1 H1]; · isplitl [P1] <;> iassumption
  isplitl [P2] <;> iassumption

/-- A reduced block splits into the three shares that its three copies read. -/
theorem done_thirds (c : Dev nD) : blockDone m c c fullShare
    ⊣⊢ iprop(blockDone m c c (Ring.shares3 fullShare 0) ∗ blockDone m c c (Ring.shares3 fullShare 1) ∗ blockDone m c c (Ring.shares3 fullShare 2)) := by
  unfold blockDone
  exact Ring.pointsTo_thirds (Ix := Unit) (Name := ℕ) (U := UU) (Lvl := ℕ) (Val := Elt F) (ℓ := (block c).view.loc (c : Thread nD τ))
    (I := (block c).view.set) fullShare (OUT m)

/-- A block's slice at an offset that is the block's. -/
theorem block_of_off (b : Fin 4) {off : Fin 2 → ℕ} (h : off = ![128 * b.val, 0]) (inb : ∀ a, off a + S128x512.size a ≤ S512x512.size a) :
    (oM : Memref sig .tc .vmem S512x512 .f32).slice (Rect.unit (s := S512x512) off S128x512.size inb) (fun _ => rfl) = block b := by
  subst h; rfl

/-- What the copy of the reduced block to the peer at distance `r` takes. -/
def toSend (c : Dev nD) (r : Fin 3) : sProp 𝕄 := iprop(blockFree (F := F) (far c r) c ∗ cpTok c 2 r ∗ cpTok (far c r) 3 (back r))

/-- The copy of the reduced block to the peer at distance `r`: its departure is then pending. -/
theorem give (c n : Dev nD) (r : Fin 3) (hn : n = far c r) (l : List Key)
    {sS sV : DmaSem sig} (hS : sS = dsem 2 r) (hV : sV = dsem 3 (back r))
    {src dst : Memref sig .tc .vmem S128x512 .f32} (hs : src = block c) (hd : dst = block c)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {k : PUnit → Prog (TpuEff nD τ sig (Elt F) Λ₀ .tc) α} {Q : α → sProp 𝕄} :
    iprop((records m K ∗ blockDone m c c (Ring.shares3 fullShare r) ∗ toSend c r ∗ owing c ((far c r, some (3, back r)) :: l) ∗ pos c (some (2, r)) 0)
        ∗ ((pending c 2 r ∗ owing c l) -∗ Runs c (k ⟨⟩) Q))
      ⊢ Runs c (.op (.enqueueDma src (.remote (Dev.tc n : Thread nD τ) dst (.dma sS) hsc) (.dma sV) hsrc hdst hsem) k) Q := by
  unfold toSend pending
  iintro ⟨⟨#HR, Hb, ⟨Hf, Ht, Ht'⟩, HO, Hat⟩, Hk⟩
  iapply (step_block m K c n r hn l hS hV hs hd) $$ [Hb Hf HO Ht Ht']
  · isplitr; · iexact HR
    isplitl [Hb]; · iexact Hb
    isplitl [Hf]; · iexact Hf
    isplitl [HO]; · iexact HO
    isplitl [Ht] <;> iassumption
  iintro ⟨Hc, HO⟩
  iapply Hk
  isplitl [Hc Hat]
  · isplitl [Hc] <;> iassumption
  iexact HO

/-- The last share is received, the block reduced, and its first copy sent. -/
theorem part6 (c : Dev nD) (v2 : BitVec 32) (Kt : _ → sProp 𝕄) :
    iprop((records m K ∗ levAts L lv ∗ owing c (left c 6) ∗ (landed m c 1 0 ∗ landed m c 1 1 ∗ pending c 1 2) ∗ blockFree c c
          ∗ toSend c 0 ∗ pos c (some (2, 0)) 0)
        ∗ (∀ v177 : BitVec 32, (owing c (left c 7) ∗ (landed m c 1 0 ∗ landed m c 1 1 ∗ landed m c 1 2)
            ∗ blockDone m c c (Ring.shares3 fullShare 1) ∗ blockDone m c c (Ring.shares3 fullShare 2) ∗ pending c 2 0) -∗ Kt v177))
      ⊢ Runs c (k0_part6 xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5
          c v2 (contrib m c c)) Kt := by
  rw [k0_part6_eq_skeleton]; unfold k0_part6_skel
  simp only [Prog.lift, Prog.bind_op, Prog.bind_ret, Prog.pure_eq_ret]
  iintro ⟨⟨#HR, #Hlev, HO, ⟨H0, H1, H2⟩, Hb, Hs, Hat⟩, Hk⟩
  iapply (await m K c 1 2 (left c 6) (left_share c 2) rfl)
  isplitl [HO H2]
  · isplitr; · iexact HR
    isplitr; · iexact Hlev
    isplitl [HO]; · iexact HO
    iassumption
  iintro ⟨HO, H2⟩
  iapply (read_slots m c)
  isplitl [H0 H1 H2]
  · isplitl [H0]; · iexact H0
    isplitl [H1] <;> iassumption
  iintro Hl
  iapply (step_block_any c c (k0_off2_eq c)) $$ Hb; iintro %v Hb
  iapply (step_block_store m c c (k0_off2_eq c) _ (red_eq m c)) $$ Hb; iintro Hb
  ihave Hb := (done_thirds m c).1 $$ Hb
  icases Hb with ⟨Hb0, Hb1, Hb2⟩
  iapply (give m K c _ 0 (Fin.ext (k0_dev7_eq c)) (left c 7) rfl rfl (block_of_off c (k0_off3_eq c) _) (block_of_off c (k0_off3_eq c) _))
  isplitl [Hb0 Hs HO Hat]
  · isplitr; · iexact HR
    isplitl [Hb0]; · iexact Hb0
    isplitl [Hs]; · iexact Hs
    isplitl [HO]; · iexact HO
    iassumption
  iintro ⟨Hp, HO⟩
  iapply step_ret
  iapply Hk
  isplitl [HO]; · iexact HO
  isplitl [Hl]; · iexact Hl
  isplitl [Hb1]; · iexact Hb1
  isplitl [Hb2] <;> iassumption

/-- The other two copies of the block are sent, and the first peer's block received. -/
theorem part7 (c : Dev nD) (v2 v177 : BitVec 32) (Kt : _ → sProp 𝕄) :
    iprop((records m K ∗ levAts L lv ∗ owing c (left c 7) ∗ blockDone m c c (Ring.shares3 fullShare 1) ∗ blockDone m c c (Ring.shares3 fullShare 2)
          ∗ (toSend c 1 ∗ pos c (some (2, 1)) 0) ∗ (toSend c 2 ∗ pos c (some (2, 2)) 0) ∗ pending c 3 0)
        ∗ (∀ v208 : BitVec 32, ∀ w : BitVec 32, (owing c (left c 9) ∗ pending c 2 1 ∗ pending c 2 2 ∗ landed m c 3 0) -∗ Kt ⟨v208, w⟩))
      ⊢ Runs c (k0_part7 xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5
          c v2 v177) Kt := by
  rw [k0_part7_eq_skeleton]; unfold k0_part7_skel
  simp only [Prog.lift, Prog.bind_op, Prog.bind_ret, Prog.pure_eq_ret]
  iintro ⟨⟨#HR, #Hlev, HO, Hb1, Hb2, ⟨Hs1, Hat1⟩, ⟨Hs2, Hat2⟩, H0⟩, Hk⟩
  iapply (give m K c _ 1 (Fin.ext (k0_dev8_eq c)) (left c 8) rfl rfl (block_of_off c (k0_off3_eq c) _) (block_of_off c (k0_off3_eq c) _))
  isplitl [Hb1 Hs1 HO Hat1]
  · isplitr; · iexact HR
    isplitl [Hb1]; · iexact Hb1
    isplitl [Hs1]; · iexact Hs1
    isplitl [HO]; · iexact HO
    iassumption
  iintro ⟨Hp1, HO⟩
  iapply (give m K c _ 2 (Fin.ext (k0_dev9_eq c)) (left c 9) rfl rfl (block_of_off c (k0_off3_eq c) _) (block_of_off c (k0_off3_eq c) _))
  isplitl [Hb2 Hs2 HO Hat2]
  · isplitr; · iexact HR
    isplitl [Hb2]; · iexact Hb2
    isplitl [Hs2]; · iexact Hs2
    isplitl [HO]; · iexact HO
    iassumption
  iintro ⟨Hp2, HO⟩
  iapply (await m K c 3 0 (left c 9) (left_none c 3 0) rfl)
  isplitl [HO H0]
  · isplitr; · iexact HR
    isplitr; · iexact Hlev
    isplitl [HO]; · iexact HO
    iassumption
  iintro ⟨HO, H0⟩
  iapply step_ret
  iapply Hk
  isplitl [HO]; · iexact HO
  isplitl [Hp1]; · iexact Hp1
  isplitl [Hp2] <;> iassumption

/-- Three waits in a row, with nothing owed. -/
theorem await3 (c : Dev nD) (j₁ j₂ j₃ : Fin 4) (r₁ r₂ r₃ : Fin 3)
    {sem₁ sem₂ sem₃ : DmaSem sig} (h₁ : sem₁ = dsem j₁ r₁) (h₂ : sem₂ = dsem j₂ r₂) (h₃ : sem₃ = dsem j₃ r₃)
    {src₁ dst₁ src₂ dst₂ src₃ dst₃ : Memref sig .tc .vmem S128x512 .f32}
    {w₁ : src₁.view.WordExact} {x₁ : dst₁.view.WordExact} {w₂ : src₂.view.WordExact} {x₂ : dst₂.view.WordExact}
    {w₃ : src₃.view.WordExact} {x₃ : dst₃.view.WordExact}
    {α : Type} {k : PUnit → PUnit → PUnit → Prog (TpuEff nD τ sig (Elt F) Λ₀ .tc) α} {Q : α → sProp 𝕄} :
    iprop((records m K ∗ levAts L lv ∗ owing c (left c 9) ∗ pending c j₁ r₁ ∗ pending c j₂ r₂ ∗ pending c j₃ r₃)
        ∗ ((owing c (left c 9) ∗ landed m c j₁ r₁ ∗ landed m c j₂ r₂ ∗ landed m c j₃ r₃) -∗ Runs c (k ⟨⟩ ⟨⟩ ⟨⟩) Q))
      ⊢ Runs c (.op (.waitDma2 sem₁ src₁ dst₁ w₁ x₁) fun a => .op (.waitDma2 sem₂ src₂ dst₂ w₂ x₂) fun b =>
          .op (.waitDma2 sem₃ src₃ dst₃ w₃ x₃) fun d => k a b d) Q := by
  iintro ⟨⟨#HR, #Hlev, HO, H1, H2, H3⟩, Hk⟩
  iapply (await m K c j₁ r₁ (left c 9) (left_none c j₁ r₁) h₁)
  isplitl [HO H1]
  · isplitr; · iexact HR
    isplitr; · iexact Hlev
    isplitl [HO]; · iexact HO
    iassumption
  iintro ⟨HO, H1⟩
  iapply (await m K c j₂ r₂ (left c 9) (left_none c j₂ r₂) h₂)
  isplitl [HO H2]
  · isplitr; · iexact HR
    isplitr; · iexact Hlev
    isplitl [HO]; · iexact HO
    iassumption
  iintro ⟨HO, H2⟩
  iapply (await m K c j₃ r₃ (left c 9) (left_none c j₃ r₃) h₃)
  isplitl [HO H3]
  · isplitr; · iexact HR
    isplitr; · iexact Hlev
    isplitl [HO]; · iexact HO
    iassumption
  iintro ⟨HO, H3⟩
  iapply Hk
  isplitl [HO]; · iexact HO
  isplitl [H1]; · iexact H1
  isplitl [H2] <;> iassumption

/-- The other two peers' blocks are received, and the first share has departed. -/
theorem part8 (c : Dev nD) (v2 v208 w : BitVec 32) (Kt : _ → sProp 𝕄) :
    iprop((records m K ∗ levAts L lv ∗ owing c (left c 9) ∗ pending c 3 1 ∗ pending c 3 2 ∗ pending c 0 0)
        ∗ (∀ w' : BitVec 32, (owing c (left c 9) ∗ landed m c 3 1 ∗ landed m c 3 2 ∗ landed m c 0 0) -∗ Kt w'))
      ⊢ Runs c (k0_part8 xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5
          c v2 v208 w) Kt := by
  rw [k0_part8_eq_skeleton]; unfold k0_part8_skel
  simp only [Prog.lift, Prog.bind_op, Prog.bind_ret, Prog.pure_eq_ret]
  iintro ⟨Hpre, Hk⟩
  iapply (await3 m K c 3 3 0 1 2 0 rfl rfl rfl)
  isplitl [Hpre]; · iexact Hpre
  iintro H
  iapply step_ret
  iapply Hk; iexact H

/-- The first two copies of the block and the second share have departed. -/
theorem part9 (c : Dev nD) (v2 w : BitVec 32) (Kt : _ → sProp 𝕄) :
    iprop((records m K ∗ levAts L lv ∗ owing c (left c 9) ∗ pending c 2 0 ∗ pending c 0 1 ∗ pending c 2 1)
        ∗ ((owing c (left c 9) ∗ landed m c 2 0 ∗ landed m c 0 1 ∗ landed m c 2 1) -∗ Kt ⟨⟩))
      ⊢ Runs c (k0_part9 xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5
          c v2 w) Kt := by
  rw [k0_part9_eq_skeleton]; unfold k0_part9_skel
  simp only [Prog.lift, Prog.bind_op, Prog.bind_ret, Prog.pure_eq_ret]
  iintro ⟨Hpre, Hk⟩
  iapply (await3 m K c 2 0 2 0 1 1 rfl rfl rfl)
  isplitl [Hpre]; · iexact Hpre
  iintro H
  iapply step_ret
  iapply Hk; iexact H

end Cert.Swiglu

end
-- ==== Proof.Ends.lean ====
/-
  How one device's buffers are cut up when the kernel starts and put together when it ends, and how its cells are closed.
-/
module

public import proofs.«01_k».proof.Proof.Gather

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Key → ℕ)

/-! ## Cutting up -/

/-- A scratch buffer at some contents is its four slots, each at some contents, -/
theorem scratch_split (M : Memref sig .tc .vmem S4x128x512 .f32) (hM : M.view.set = Finset.univ) (c : Dev nD) :
    iprop(∃ f : Buf (Elt F) (M.view.loc (c : Thread nD τ)), M.view.loc (c : Thread nD τ) ↦{fullShare} f)
      ⊢ (iprop(slotAny M c 0 ∗ slotAny M c (slotNo 0) ∗ slotAny M c (slotNo 1) ∗ slotAny M c (slotNo 2)) : sProp 𝕄) := by
  iintro ⟨%f, H⟩
  ihave H := (Entails.of_eq ((slots_split M hM c f).trans (bigSep_fin4 _))) $$ H
  icases H with ⟨H0, H1, H2, H3⟩
  unfold slotAny
  isplitl [H0]; · iexists f; iexact H0
  isplitl [H1]; · iexists f; iexact H1
  isplitl [H2]; · iexists f; iexact H2
  iexists f; iexact H3

/-- and four such slots are such a buffer. -/
theorem scratch_join (M : Memref sig .tc .vmem S4x128x512 .f32) (hM : M.view.set = Finset.univ) (c : Dev nD) :
    iprop(slotAny M c 0 ∗ slotAny M c (slotNo 0) ∗ slotAny M c (slotNo 1) ∗ slotAny M c (slotNo 2))
      ⊢ (iprop(∃ f : Buf (Elt F) (M.view.loc (c : Thread nD τ)), M.view.loc (c : Thread nD τ) ↦{fullShare} f) : sProp 𝕄) := by
  unfold slotAny
  iintro ⟨⟨%f, H0⟩, H1, H2, H3⟩
  iapply (slots_join M hM c f)
  rw [bigSep_fin4]
  isplitl [H0]; · iexists f; iexact H0
  isplitl [H1]; · iexact H1
  isplitl [H2]; · iexact H2
  iexact H3

/-- The four blocks as a device sees them: its own, and those of the devices one, two and three ahead. -/
theorem bigSep_around (c : Dev nD) (Φ : Fin 4 → sProp 𝕄) :
    bigSep Finset.univ Φ = iprop(Φ c ∗ Φ (far c 0) ∗ Φ (far c 1) ∗ Φ (far c 2)) :=
  bigSep_univ_eq_bigSepL [c, far c 0, far c 1, far c 2] (by revert c; decide) (by revert c; decide) Φ

/-- The result's buffer at some contents is its four blocks, each at some contents, -/
theorem out_split (c : Dev nD) :
    iprop(∃ f : Buf (Elt F) (oM.view.loc (c : Thread nD τ)), oM.view.loc (c : Thread nD τ) ↦{fullShare} f)
      ⊢ (iprop(blockFree c c ∗ blockFree c (far c 0) ∗ blockFree c (far c 1) ∗ blockFree c (far c 2)) : sProp 𝕄) := by
  iintro ⟨%f, H⟩
  ihave H := (Entails.of_eq ((blocks_split c f).trans (bigSep_around c _))) $$ H
  icases H with ⟨H0, H1, H2, H3⟩
  unfold blockFree
  isplitl [H0]; · iexists f; iexact H0
  isplitl [H1]; · iexists f; iexact H1
  isplitl [H2]; · iexists f; iexact H2
  iexists f; iexact H3

/-- and four finished blocks are the finished result. -/
theorem out_join (c : Dev nD) :
    iprop(blockDone m c c fullShare ∗ blockDone m c (far c 0) fullShare ∗ blockDone m c (far c 1) fullShare ∗ blockDone m c (far c 2) fullShare)
      ⊢ ((oM : Memref sig .tc .vmem S512x512 .f32).view.loc (c : Thread nD τ) ↦{fullShare} (OUT m) : sProp 𝕄) := by
  have h := Entails.of_eq ((blocks_split c (OUT m)).trans (bigSep_around c _)).symm
  exact h

/-! ## Putting together -/

/-- The three landings of one kind. -/
def landed3 (c : Dev nD) (j : Fin 4) : sProp 𝕄 := iprop(landed m c j 0 ∗ landed m c j 1 ∗ landed m c j 2)

/-- The device's places after all its waits, on the three cells of one kind. -/
def after3 (c : Dev nD) (j : Fin 4) : sProp 𝕄 := iprop(pos (F := F) c (some (j, 0)) 1 ∗ pos c (some (j, 1)) 1 ∗ pos c (some (j, 2)) 1)

/-- Three landings are the three places and the three things handed over. -/
theorem landed3_open (c : Dev nD) (j : Fin 4) :
    landed3 m c j ⊢ iprop(after3 c j ∗ copyPay m c j 0 ∗ copyPay m c j 1 ∗ copyPay m c j 2) := by
  unfold landed3 landed after3
  iintro ⟨⟨P0, H0⟩, ⟨P1, H1⟩, ⟨P2, H2⟩⟩
  isplitl [P0 P1 P2]
  · isplitl [P0]; · iexact P0
    isplitl [P1] <;> iassumption
  isplitl [H0]; · iexact H0
  isplitl [H1] <;> iassumption

/-- The departed shares give back the send buffer. -/
theorem sends_back (c : Dev nD) : iprop(slotAny sM c 0 ∗ copyPay m c 0 0 ∗ copyPay m c 0 1 ∗ copyPay m c 0 2)
    ⊢ (iprop(∃ f : Buf (Elt F) ((c : Thread nD τ).loc cc0_scratch0), ((c : Thread nD τ).loc cc0_scratch0) ↦{fullShare} f) : sProp 𝕄) := by
  unfold copyPay
  iintro ⟨H, H0, H1, H2⟩
  iapply (scratch_join sM (View.set_whole _) c)
  isplitl [H]; · iexact H
  isplitl [H0]; · iapply (slot_any sM c (slotNo 0) _); iexact H0
  isplitl [H1]; · iapply (slot_any sM c (slotNo 1) _); iexact H1
  iapply (slot_any sM c (slotNo 2) _); iexact H2

/-- The received shares give back the receive buffer. -/
theorem receives_back (c : Dev nD) : iprop(slotAny rM c 0 ∗ copyPay m c 1 0 ∗ copyPay m c 1 1 ∗ copyPay m c 1 2)
    ⊢ (iprop(∃ f : Buf (Elt F) ((c : Thread nD τ).loc cc0_scratch1), ((c : Thread nD τ).loc cc0_scratch1) ↦{fullShare} f) : sProp 𝕄) := by
  unfold copyPay
  iintro ⟨H, H0, H1, H2⟩
  iapply (scratch_join rM (View.set_whole _) c)
  isplitl [H]; · iexact H
  isplitl [H0]; · iapply (slot_any rM c (slotNo 0) _); iexact H0
  isplitl [H1]; · iapply (slot_any rM c (slotNo 1) _); iexact H1
  iapply (slot_any rM c (slotNo 2) _); iexact H2

/-- The departed copies of the own block and the received blocks give the whole result. -/
theorem result_back (c : Dev nD) :
    iprop((copyPay m c 2 0 ∗ copyPay m c 2 1 ∗ copyPay m c 2 2) ∗ copyPay m c 3 0 ∗ copyPay m c 3 1 ∗ copyPay m c 3 2)
      ⊢ (((c : Thread nD τ).loc cc0_stg4_0) ↦{fullShare} (OUT m) : sProp 𝕄) := by
  unfold copyPay
  iintro ⟨Hown, Hpeers⟩
  iapply (out_join m c)
  isplitl [Hown]
  · iapply (done_thirds m c).2; iexact Hown
  iexact Hpeers

/-! ## The cells -/

/-- The places on all cells, kind by kind. -/
theorem places_eq (c : Dev nD) (R : ℕ) : bigSep Finset.univ (fun k : Kind => (pos c k R : sProp 𝕄))
    = iprop(pos c none R ∗ (pos c (some (0, 0)) R ∗ pos c (some (0, 1)) R ∗ pos c (some (0, 2)) R)
      ∗ (pos c (some (1, 0)) R ∗ pos c (some (1, 1)) R ∗ pos c (some (1, 2)) R)
      ∗ (pos c (some (2, 0)) R ∗ pos c (some (2, 1)) R ∗ pos c (some (2, 2)) R)
      ∗ pos c (some (3, 0)) R ∗ pos c (some (3, 1)) R ∗ pos c (some (3, 2)) R) := by
  rw [bigSep_kind, bigSep_fin4, bigSep_fin3, bigSep_fin3, bigSep_fin3, bigSep_fin3]

/-- What holds beside a fact that may be used any number of times holds for each member. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- A cell whose only wait is over closes, and gives back its counter at zero; -/
theorem close_cell (c : Dev nD) (k : Kind) : iprop(records m K ∗ pos c k 1) ⊢ (|={Set.univ}=> semVal (kcell (c, k)) 0 : sProp 𝕄) := by
  iintro ⟨#HR, H⟩
  iapply (Rounds.cell_close ER (Rd m) (Set.mem_univ (K (c, k))) (fun h => h) (R := 0 + 1) (duties_later m (kcell (c, k))))
  isplitr; · iapply (inv_at m K (c, k)); iexact HR
  iexact H

/-- so do all. -/
theorem close_cells (c : Dev nD) : iprop(records m K ∗ bigSep Finset.univ fun k : Kind => pos c k 1)
    ⊢ (|={Set.univ}=> bigSep Finset.univ fun k : Kind => semVal (kcell (c, k)) 0 : sProp 𝕄) :=
  (bigSep_beside fun k _ => close_cell m K c k).trans (bigSep_fupd _ _)

end Cert.Swiglu

end
-- ==== Proof.Body.lean ====
/-
  The whole kernel on one device, from its buffers and its ghost state to its finished result.
-/
module

public import proofs.«01_k».proof.Proof.Ends

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Key → ℕ)

/-- The tokens with which a device pays at one distance: its signal, and both ends of its two copies. -/
def tokens (c : Dev nD) (r : Fin 3) : sProp 𝕄 :=
  iprop(barTok (F := F) c r ∗ cpTok c 0 r ∗ cpTok (far c r) 1 (back r) ∗ cpTok c 2 r ∗ cpTok (far c r) 3 (back r))

/-- A device's places before all its waits, and its tokens. -/
def linear (c : Dev nD) : sProp 𝕄 :=
  iprop((bigSep Finset.univ fun k : Kind => pos (F := F) c k 0) ∗ tokens c 0 ∗ tokens c 1 ∗ tokens c 2)

/-- The credits that come with the launch: one for every unit that the peers are to pay. -/
def credits (c : Dev nD) : sProp 𝕄 := bigSep Finset.univ fun k : Kind => cred (Val := Elt F) (U := UU) (Lvl := ℕ) (Name := ℕ) (tallyAt (kcell (c, k)) () (credit k))

/-- The launch's credits that the waits use: the barrier's three units, and the arrivals. -/
theorem credits_open (c : Dev nD) : credits c ⊢ (iprop(cred (tallyAt (kcell (c, none)) () 3)
    ∗ (cpCred c 1 0 ∗ cpCred c 1 1 ∗ cpCred c 1 2) ∗ cpCred c 3 0 ∗ cpCred c 3 1 ∗ cpCred c 3 2) : sProp 𝕄) := by
  unfold credits
  rw [bigSep_kind, bigSep_fin4, bigSep_fin3, bigSep_fin3, bigSep_fin3, bigSep_fin3]
  iintro ⟨H, -, H1, -, H3⟩
  isplitl [H]; · iexact H
  isplitl [H1]; · iexact H1
  iexact H3

/-- A program's last step may still close invariants. -/
theorem step_end {c : Dev nD} {α : Type} {a : α} {Q : α → sProp 𝕄} : (|={Set.univ}=> Q a) ⊢ Runs c (.ret a) Q := by
  show _ ⊢ wp frame (wpE (defs₀ (F := F)) 𝒱₀ (c : Thread nD τ) none) Set.univ (.ret a) Q
  rw [wp_ret]

/-- The end of the kernel: the last two departures. -/
theorem last_waits (c : Dev nD) {src₁ dst₁ src₂ dst₂ : Memref sig .tc .vmem S128x512 .f32}
    {w₁ : src₁.view.WordExact} {x₁ : dst₁.view.WordExact} {w₂ : src₂.view.WordExact} {x₂ : dst₂.view.WordExact}
    {sem₁ sem₂ : DmaSem sig} (h₁ : sem₁ = dsem 0 2) (h₂ : sem₂ = dsem 2 2) {Q : PUnit → sProp 𝕄} :
    iprop((records m K ∗ levAts L lv ∗ owing c (left c 9) ∗ pending c 0 2 ∗ pending c 2 2)
        ∗ ((owing c (left c 9) ∗ landed m c 0 2 ∗ landed m c 2 2) -∗ |={Set.univ}=> Q ⟨⟩))
      ⊢ Runs c (.op (.waitDma2 sem₁ src₁ dst₁ w₁ x₁) fun _ => .op (.waitDma2 sem₂ src₂ dst₂ w₂ x₂) fun _ => .ret ⟨⟩) Q := by
  iintro ⟨⟨#HR, #Hlev, HO, H1, H2⟩, Hk⟩
  iapply (await m K c 0 2 (left c 9) (left_none c 0 2) h₁)
  isplitl [HO H1]
  · isplitr; · iexact HR
    isplitr; · iexact Hlev
    isplitl [HO]; · iexact HO
    iassumption
  iintro ⟨HO, H1⟩
  iapply (await m K c 2 2 (left c 9) (left_none c 2 2) h₂)
  isplitl [HO H2]
  · isplitr; · iexact HR
    isplitr; · iexact Hlev
    isplitl [HO]; · iexact HO
    iassumption
  iintro ⟨HO, H2⟩
  iapply step_end
  iapply Hk
  isplitl [HO]; · iexact HO
  isplitl [H1] <;> iassumption

/-- A program of two stages runs if the first runs to a state from which the second does. -/
theorem step_bind {c : Dev nD} {α β : Type} {p : Prog (TpuEff nD τ sig (Elt F) Λ₀ .tc) α} {k : α → Prog (TpuEff nD τ sig (Elt F) Λ₀ .tc) β}
    {Q : β → sProp 𝕄} : Runs c p (fun a => Runs c (k a) Q) ⊢ Runs c (p >>= k) Q := by
  show _ ⊢ wp frame (wpE (defs₀ (F := F)) 𝒱₀ (c : Thread nD τ) none) Set.univ (p >>= k) Q
  rw [wp_bind]

/-- Whatever the devices' buffers hold, the kernel on device `c` ends with the whole result in the result's buffer, its
    inputs as they were, nothing owed, and all its cells closed at zero. -/
theorem body_runs (c : Dev nD) (Kt : PUnit → sProp 𝕄) :
    iprop((records m K ∗ levAts L lv ∗ inputs m c ∗ owing c (dues c) ∗ linear c ∗ credits c
          ∗ (∃ f : Buf (Elt F) ((c : Thread nD τ).loc cc0_stg4_0), ((c : Thread nD τ).loc cc0_stg4_0) ↦{fullShare} f)
          ∗ (∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ ((inputs m c ∗ owing c [] ∗ (bigSep Finset.univ fun k : Kind => semVal (kcell (c, k)) 0)
          ∗ (((c : Thread nD τ).loc cc0_stg4_0) ↦{fullShare} (OUT m))
          ∗ (∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)) -∗ Kt ⟨⟩))
      ⊢ Runs c (cc0_body xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5) Kt := by
  rw [cc0_body_eq_skeleton]; unfold cc0_body_skel
  unfold linear tokens
  rw [places_eq]
  iintro ⟨⟨#HR, #Hlev, H, HO, ⟨⟨Pb, ⟨P00, P01, P02⟩, ⟨P10, P11, P12⟩, ⟨P20, P21, P22⟩, P30, P31, P32⟩,
    ⟨B0, A00, A10, A20, A30⟩, ⟨B1, A01, A11, A21, A31⟩, B2, A02, A12, A22, A32⟩, Hcr, Hout, Hsend, Hrecv⟩, Hk⟩
  ihave Hcr := (credits_open c) $$ Hcr
  icases Hcr with ⟨Cb, ⟨C10, C11, C12⟩, C30, C31, C32⟩
  ihave Hout := (out_split c) $$ Hout
  icases Hout with ⟨Oown, O0, O1, O2⟩
  ihave Hsend := (scratch_split sM (View.set_whole _) c) $$ Hsend
  icases Hsend with ⟨S, S0, S1, S2⟩
  ihave Hrecv := (scratch_split rM (View.set_whole _) c) $$ Hrecv
  icases Hrecv with ⟨R, R0, R1, R2⟩
  -- the handshake
  iapply step_bind
  iapply (part1 m K c)
  isplitl [H HO B0 B1 B2 R0 R1 R2 O0 O1 O2 Cb Pb]
  · isplitr; · iexact HR
    isplitr; · iexact Hlev
    isplitl [H]; · iexact H
    isplitl [HO]; · iexact HO
    isplitl [B0 B1 B2]
    · isplitl [B0]; · iexact B0
      isplitl [B1] <;> iassumption
    isplitl [R0 R1 R2]
    · simp only [slotFree_eq]
      isplitl [R0]; · iexact R0
      isplitl [R1] <;> iassumption
    isplitl [O0 O1 O2]
    · isplitl [O0]; · iexact O0
      isplitl [O1] <;> iassumption
    isplitl [Cb] <;> iassumption
  iintro %v2 %v17
  unfold barPay
  iintro ⟨H, HO, Pb, ⟨F0, D0⟩, ⟨F1, D1⟩, F2, D2⟩
  -- the shares
  iapply step_bind
  iapply (part2 m K c)
  isplitl [H S0 F0 HO A00 A10]
  · isplitr; · iexact HR
    isplitl [H]; · iexact H
    isplitl [S0]; · iexact S0
    isplitl [F0]; · iexact F0
    isplitl [HO]; · iexact HO
    isplitl [A00] <;> iassumption
  iintro %v48 ⟨H, C00, HO⟩
  iapply step_bind
  iapply (part3 m K c)
  isplitl [H S1 F1 HO A01 A11]
  · isplitr; · iexact HR
    isplitl [H]; · iexact H
    isplitl [S1]; · iexact S1
    isplitl [F1]; · iexact F1
    isplitl [HO]; · iexact HO
    isplitl [A01] <;> iassumption
  iintro %v79 ⟨H, C01, HO⟩
  iapply step_bind
  iapply (part4 m K c)
  isplitl [H S2 F2 HO A02 A12]
  · isplitr; · iexact HR
    isplitl [H]; · iexact H
    isplitl [S2]; · iexact S2
    isplitl [F2]; · iexact F2
    isplitl [HO]; · iexact HO
    isplitl [A02] <;> iassumption
  iintro ⟨H, C02, HO⟩
  iapply step_bind
  iapply (part5 m K c)
  isplitl [H HO C10 P10 C11 P11]
  · isplitr; · iexact HR
    isplitr; · iexact Hlev
    isplitl [H]; · iexact H
    isplitl [HO]; · iexact HO
    unfold pending
    isplitl [C10 P10]
    · isplitl [C10] <;> iassumption
    isplitl [C11] <;> iassumption
  iintro ⟨H, HO, L10, L11⟩
  -- the reduced block
  iapply step_bind
  iapply (part6 m K c)
  isplitl [HO L10 L11 C12 P12 Oown D0 A20 A30 P20]
  · isplitr; · iexact HR
    isplitr; · iexact Hlev
    isplitl [HO]; · iexact HO
    unfold pending toSend
    isplitl [L10 L11 C12 P12]
    · isplitl [L10]; · iexact L10
      isplitl [L11]; · iexact L11
      isplitl [C12] <;> iassumption
    isplitl [Oown]; · iexact Oown
    isplitl [D0 A20 A30]
    · isplitl [D0]; · iexact D0
      isplitl [A20] <;> iassumption
    iexact P20
  iintro %v177 ⟨HO, L1, T1, T2, W20⟩
  iapply step_bind
  iapply (part7 m K c)
  isplitl [HO T1 T2 D1 A21 A31 P21 D2 A22 A32 P22 C30 P30]
  · isplitr; · iexact HR
    isplitr; · iexact Hlev
    isplitl [HO]; · iexact HO
    isplitl [T1]; · iexact T1
    isplitl [T2]; · iexact T2
    unfold pending toSend
    isplitl [D1 A21 A31 P21]
    · isplitl [D1 A21 A31]
      · isplitl [D1]; · iexact D1
        isplitl [A21] <;> iassumption
      iexact P21
    isplitl [D2 A22 A32 P22]
    · isplitl [D2 A22 A32]
      · isplitl [D2]; · iexact D2
        isplitl [A22] <;> iassumption
      iexact P22
    isplitl [C30] <;> iassumption
  iintro %v208 %w ⟨HO, W21, W22, L30⟩
  -- the last waits
  iapply step_bind
  iapply (part8 m K c)
  isplitl [HO C31 P31 C32 P32 C00 P00]
  · isplitr; · iexact HR
    isplitr; · iexact Hlev
    isplitl [HO]; · iexact HO
    unfold pending
    isplitl [C31 P31]
    · isplitl [C31] <;> iassumption
    isplitl [C32 P32]
    · isplitl [C32] <;> iassumption
    isplitl [C00] <;> iassumption
  iintro %w' ⟨HO, L31, L32, L00⟩
  iapply step_bind
  iapply (part9 m K c)
  isplitl [HO W20 C01 P01 W21]
  · isplitr; · iexact HR
    isplitr; · iexact Hlev
    isplitl [HO]; · iexact HO
    isplitl [W20]; · iexact W20
    isplitl [C01 P01]
    · unfold pending; isplitl [C01] <;> iassumption
    iexact W21
  iintro ⟨HO, L20, L01, L21⟩
  simp only [Prog.lift, Prog.bind_op, Prog.bind_ret, Prog.pure_eq_ret]
  iapply (last_waits m K c rfl rfl)
  isplitl [HO C02 P02 W22]
  · isplitr; · iexact HR
    isplitr; · iexact Hlev
    isplitl [HO]; · iexact HO
    isplitl [C02 P02]
    · unfold pending; isplitl [C02] <;> iassumption
    iexact W22
  iintro ⟨HO, L02, L22⟩
  -- the buffers are put together, the cells closed
  ihave HL := (landed3_open m c 0) $$ [L00 L01 L02]
  · unfold landed3
    isplitl [L00]; · iexact L00
    isplitl [L01] <;> iassumption
  icases HL with ⟨Q0, Hsend⟩
  ihave HL := (landed3_open m c 1) $$ [L1]
  · unfold landed3; iexact L1
  icases HL with ⟨Q1, Hrecv⟩
  ihave HL := (landed3_open m c 2) $$ [L20 L21 L22]
  · unfold landed3
    isplitl [L20]; · iexact L20
    isplitl [L21] <;> iassumption
  icases HL with ⟨Q2, Hown⟩
  ihave HL := (landed3_open m c 3) $$ [L30 L31 L32]
  · unfold landed3
    isplitl [L30]; · iexact L30
    isplitl [L31] <;> iassumption
  icases HL with ⟨Q3, Hpeers⟩
  ihave Hsend := (sends_back m c) $$ [S Hsend]
  · isplitl [S] <;> iassumption
  ihave Hrecv := (receives_back m c) $$ [R Hrecv]
  · isplitl [R] <;> iassumption
  ihave Hout := (result_back m c) $$ [Hown Hpeers]
  · isplitl [Hown] <;> iassumption
  imod (close_cells m K c) $$ [Pb Q0 Q1 Q2 Q3] with Hz
  · isplitr; · iexact HR
    rw [places_eq]
    unfold after3
    isplitl [Pb]; · iexact Pb
    isplitl [Q0]; · iexact Q0
    isplitl [Q1]; · iexact Q1
    isplitl [Q2] <;> iassumption
  imodintro
  iapply Hk
  isplitl [H]; · iexact H
  isplitl [HO]; · iexact HO
  isplitl [Hz]; · iexact Hz
  isplitl [Hout]; · iexact Hout
  isplitl [Hsend] <;> iassumption

end Cert.Swiglu

end
-- ==== Proof.Ghost.lean ====
/-
  The launch's ghost state: every device's cells are set up at once, and each device is given the places of its own
  cells and the tokens of the payments it is to make.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores -/

/-- The elements of the four semaphore arrays, in order. -/
abbrev osem : Fin 16 → SemLoc sig := fun i =>
  .dma (semAt (semArr ⟨i.val / 4, Nat.div_lt_of_lt_mul i.isLt⟩) ⟨i.val % 4, Nat.mod_lt _ (by decide)⟩)

theorem ownSemFacts : Pipeline.OwnSemFacts cfg0.spec osem := by decide

/-- The elements the kernel does not use, one per array, at zero. -/
def spare (c : Dev nD) : sProp 𝕄 :=
  iprop(semVal ((c : Thread nD τ), osem 0) 0 ∗ semVal ((c : Thread nD τ), osem 4) 0 ∗ semVal ((c : Thread nD τ), osem 8) 0 ∗ semVal ((c : Thread nD τ), osem 12) 0)

/-- The kernel's own semaphores at zero: per array, the unused element and the cells of the three distances. -/
theorem ownSems_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal (kcell (c, some (0, 0))) 0 ∗ semVal (kcell (c, some (0, 1))) 0 ∗ semVal (kcell (c, some (0, 2))) 0
      ∗ semVal ((c : Thread nD τ), osem 4) 0 ∗ semVal (kcell (c, some (1, 0))) 0 ∗ semVal (kcell (c, some (1, 1))) 0 ∗ semVal (kcell (c, some (1, 2))) 0
      ∗ semVal ((c : Thread nD τ), osem 8) 0 ∗ semVal (kcell (c, some (2, 0))) 0 ∗ semVal (kcell (c, some (2, 1))) 0 ∗ semVal (kcell (c, some (2, 2))) 0
      ∗ semVal ((c : Thread nD τ), osem 12) 0 ∗ semVal (kcell (c, some (3, 0))) 0 ∗ semVal (kcell (c, some (3, 1))) 0 ∗ semVal (kcell (c, some (3, 2))) 0) := by
  rw [Pipeline.ownSems0_eq_of_list c osem [0, 1, 2, 3, 4, 5, 6, 7, 8, 9, 10, 11, 12, 13, 14, 15] (by decide) (by decide)]; rfl

/-- The launch's one semaphore that no kernel owns is the barrier's. -/
theorem unscoped_eq (c : Dev nD) : (unscopedSems0 c : sProp 𝕄) = semVal (kcell (c, none)) 0 := by
  unfold unscopedSems0; rw [bigSep_eq_bigSepL_of_eq [SemLoc.reg barS] (by decide) (by decide)]; rfl

/-- All counters of a device at zero, cell by cell. -/
theorem counters_eq (c : Dev nD) : bigSep Finset.univ (fun k : Kind => (semVal (kcell (c, k)) 0 : sProp 𝕄))
    = iprop(semVal (kcell (c, none)) 0
      ∗ (semVal (kcell (c, some (0, 0))) 0 ∗ semVal (kcell (c, some (0, 1))) 0 ∗ semVal (kcell (c, some (0, 2))) 0)
      ∗ (semVal (kcell (c, some (1, 0))) 0 ∗ semVal (kcell (c, some (1, 1))) 0 ∗ semVal (kcell (c, some (1, 2))) 0)
      ∗ (semVal (kcell (c, some (2, 0))) 0 ∗ semVal (kcell (c, some (2, 1))) 0 ∗ semVal (kcell (c, some (2, 2))) 0)
      ∗ semVal (kcell (c, some (3, 0))) 0 ∗ semVal (kcell (c, some (3, 1))) 0 ∗ semVal (kcell (c, some (3, 2))) 0) := by
  rw [bigSep_kind, bigSep_fin4, bigSep_fin3, bigSep_fin3, bigSep_fin3, bigSep_fin3]

/-- The semaphores a launch starts from are the counters of the cells, and the unused ones, -/
theorem counters_start (c : Dev nD) :
    iprop(Pipeline.ownSems0 (Ix := Unit) (Name := ℕ) (U := UU) (Lvl := ℕ) (Val := Elt F) (τ := τ) osem c ∗ unscopedSems0 c)
      ⊢ (iprop((bigSep Finset.univ fun k : Kind => semVal (kcell (c, k)) 0) ∗ spare c) : sProp 𝕄) := by
  rw [ownSems_eq, unscoped_eq, counters_eq]
  unfold spare
  iintro ⟨⟨A, A0, A1, A2, B, B0, B1, B2, C, C0, C1, C2, D, D0, D1, D2⟩, H⟩
  isplitr [A B C D]
  · isplitl [H]; · iexact H
    isplitl [A0 A1 A2]
    · isplitl [A0]; · iexact A0
      isplitl [A1] <;> iassumption
    isplitl [B0 B1 B2]
    · isplitl [B0]; · iexact B0
      isplitl [B1] <;> iassumption
    isplitl [C0 C1 C2]
    · isplitl [C0]; · iexact C0
      isplitl [C1] <;> iassumption
    isplitl [D0]; · iexact D0
    isplitl [D1] <;> iassumption
  isplitl [A]; · iexact A
  isplitl [B]; · iexact B
  isplitl [C] <;> iassumption

/-- and the other way round. -/
theorem counters_end (c : Dev nD) : (iprop((bigSep Finset.univ fun k : Kind => semVal (kcell (c, k)) 0) ∗ spare c) : sProp 𝕄)
    ⊢ iprop(unscopedSems0 c ∗ Pipeline.ownSems0 (Ix := Unit) (Name := ℕ) (U := UU) (Lvl := ℕ) (Val := Elt F) (τ := τ) osem c) := by
  rw [ownSems_eq, unscoped_eq, counters_eq]
  unfold spare
  iintro ⟨⟨H, ⟨A0, A1, A2⟩, ⟨B0, B1, B2⟩, ⟨C0, C1, C2⟩, D0, D1, D2⟩, A, B, C, D⟩
  isplitl [H]; · iexact H
  isplitl [A]; · iexact A
  isplitl [A0]; · iexact A0
  isplitl [A1]; · iexact A1
  isplitl [A2]; · iexact A2
  isplitl [B]; · iexact B
  isplitl [B0]; · iexact B0
  isplitl [B1]; · iexact B1
  isplitl [B2]; · iexact B2
  isplitl [C]; · iexact C
  isplitl [C0]; · iexact C0
  isplitl [C1]; · iexact C1
  isplitl [C2]; · iexact C2
  isplitl [D]; · iexact D
  isplitl [D0]; · iexact D0
  isplitl [D1] <;> iassumption

/-! ## Tokens -/

/-- A device's duties by their payee: at the barrier one per peer, at each copy's cell one. -/
abbrev Duty : Type := Option (Fin 4) × Fin 3

/-- The token of one duty of one device's cells. -/
abbrev tokOf (x : Dev nD × Duty) : GSem nD τ sig × ℕ × Fin 3 := match x.2 with
  | (none, r) => (kcell (x.1, none), 0, r)
  | (some j, r) => (kcell (x.1, some (j, r)), 0, 0)

theorem tokOf_injective : Function.Injective tokOf := by
  rintro ⟨c, _ | j, r⟩ ⟨c', _ | j', r'⟩ h
  · have h1 := kcell_injective (congrArg Prod.fst h)
    have h2 : r = r' := congrArg (fun x => x.2.2) h
    have h3 : c = c' := congrArg Prod.fst h1
    rw [h2, h3]
  · exact absurd (congrArg Prod.snd (kcell_injective (congrArg Prod.fst h))) (by simp)
  · exact absurd (congrArg Prod.snd (kcell_injective (congrArg Prod.fst h))) (by simp)
  · have h1 := kcell_injective (congrArg Prod.fst h)
    simp only [Prod.mk.injEq, Option.some.injEq] at h1
    obtain ⟨h3, h4, h5⟩ := h1
    rw [h3, h4, h5]

/-- The tokens of the duties at a device's own cells. -/
def minted (c : Dev nD) (r : Fin 3) : sProp 𝕄 :=
  iprop(dutyTok ER (kcell (c, none)) 0 r ∗ cpTok (F := F) c 0 r ∗ cpTok c 1 r ∗ cpTok c 2 r ∗ cpTok c 3 r)

def cellSet : Finset (GSem nD τ sig) := Finset.univ.map ⟨kcell, kcell_injective⟩
def tokSet : Finset (GSem nD τ sig × ℕ × Fin 3) := Finset.univ.map ⟨tokOf, tokOf_injective⟩

/-- The ghost state the launch starts from: the pipeline's, and that of the kernel's cells. -/
def u₀ : UU := (initOf (Pipeline.cells cfgs cellOf_inj) (Pipeline.launchToks cfgs cellOf_inj), initOf cellSet tokSet)

/-- What a device is dealt of it: the state of its cells, its places, and the tokens of its cells. -/
def G (c : Dev nD) : sProp 𝕄 :=
  iprop((bigSep Finset.univ fun k : Kind => roundState ER (Rd m) (kcell (c, k)) 0)
    ∗ (bigSep Finset.univ fun k : Kind => iprop(pos c k 0 ∗ reached ER (kcell (c, k)) 0))
    ∗ bigSep Finset.univ fun r : Fin 3 => minted c r)

/-- What it starts from once the cells are set up: for some names of the cells, the records, its places and the tokens
    of its payments; and the unused semaphores. -/
def G' (c : Dev nD) : sProp 𝕄 := iprop((∃ K, records m K ∗ linear c) ∗ spare c)

theorem minted_eq (c : Dev nD) : bigSep Finset.univ (fun d : Duty => (dutyTok ER (tokOf (c, d)).1 (tokOf (c, d)).2.1 (tokOf (c, d)).2.2 : sProp 𝕄))
    = bigSep Finset.univ fun r : Fin 3 => minted c r := by
  unfold minted
  rw [bigSep_univ_prod, bigSep_univ_eq_bigSepL [none, some 0, some 1, some 2, some 3] (by decide) (by decide)]
  rw [bigSep_sep', bigSep_sep', bigSep_sep', bigSep_sep']
  rfl

theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Kind => Φ (kcell (c, k)) := by
    unfold cellSet; rw [bigSep_map, bigSep_univ_prod]; rfl
  have hT : bigSep tokSet (fun x => (dutyTok ER x.1 x.2.1 x.2.2 : sProp 𝕄))
      = bigSep Finset.univ fun c : Dev nD => bigSep Finset.univ fun r : Fin 3 => minted c r := by
    unfold tokSet; rw [bigSep_map, bigSep_univ_prod]
    exact bigSep_congr fun c _ => minted_eq c
  iintro HX
  imod (Rounds.fund ER (Rd m) cellSet tokSet) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Seen from all devices at once, the duty of the peer at distance `r` is one's own at the peer's. -/
theorem bigSep_opposite (Φ : Dev nD → Fin 3 → sProp 𝕄) :
    (bigSep Finset.univ fun c : Dev nD => bigSep Finset.univ fun r : Fin 3 => Φ c r)
      = bigSep Finset.univ fun c : Dev nD => bigSep Finset.univ fun r : Fin 3 => Φ (far c r) (back r) := by
  rw [← bigSep_univ_prod (fun x : Dev nD × Fin 3 => Φ x.1 x.2), bigSep_univ_equiv oppEquiv, bigSep_univ_prod]
  rfl

/-- The tokens are dealt to those that pay with them. -/
theorem deal : (bigSep Finset.univ fun c : Dev nD => bigSep Finset.univ fun r : Fin 3 => (minted c r : sProp 𝕄))
    = bigSep Finset.univ fun c : Dev nD => bigSep Finset.univ fun r : Fin 3 => tokens c r := by
  unfold minted tokens
  simp only [bigSep_sep']
  rw [bigSep_opposite (fun c r => dutyTok ER (kcell (c, none)) 0 r), bigSep_opposite (fun c r => cpTok c 1 r), bigSep_opposite (fun c r => cpTok c 3 r)]

/-! ## Setting up the cells -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kind => iprop(∃ κ : ℕ, cellInv ER (Rd m) κ (kcell (c, k))))
          ∗ (bigSep Finset.univ fun k : Kind => iprop(pos c k 0 ∗ reached ER (kcell (c, k)) 0))
          ∗ (bigSep Finset.univ fun r : Fin 3 => minted c r) ∗ spare c) := by
  have halloc : iprop((bigSep Finset.univ fun k : Kind => semVal (kcell (c, k)) 0) ∗ bigSep Finset.univ fun k : Kind => roundState ER (Rd m) (kcell (c, k)) 0)
      ⊢ (|={Set.univ}=> bigSep Finset.univ fun k : Kind => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (counters_start (F := F) c) $$ [Hos Hus]
  · isplitl [Hos] <;> iassumption
  icases Hv with ⟨Hv, Hsp⟩
  imod halloc $$ [Hv Hst] with Hinv
  · isplitl [Hv] <;> iassumption
  imodintro
  isplitl [Hinv]; · iexact Hinv
  isplitl [Hat]; · iexact Hat
  isplitl [Htok] <;> iassumption

theorem regroup :
    (bigSep Finset.univ fun c : Dev nD => iprop((bigSep Finset.univ fun k : Kind => iprop(∃ κ : ℕ, cellInv ER (Rd m) κ (kcell (c, k))))
          ∗ (bigSep Finset.univ fun k : Kind => iprop(pos c k 0 ∗ reached ER (kcell (c, k)) 0))
          ∗ (bigSep Finset.univ fun r : Fin 3 => minted c r) ∗ spare c) : sProp 𝕄)
      ⊢ bigSep Finset.univ (G' m) := by
  simp only [bigSep_sep']
  rw [← bigSep_univ_prod (fun x : Key => iprop(∃ κ : ℕ, cellInv ER (Rd m) κ (kcell x))),
    ← bigSep_univ_prod (fun x : Key => (reached ER (kcell x) 0 : sProp 𝕄)), deal]
  iintro ⟨HI, ⟨Hat, #HR⟩, Htok, Hsp⟩
  ihave HK := (BI.bigSep_exists_pi Finset.univ (fun (x : Key) (κ : ℕ) => (cellInv ER (Rd m) κ (kcell x) : sProp 𝕄))) $$ HI
  icases HK with ⟨%K, #HI⟩
  have hone (c : Dev nD) : iprop(records m K ∗ ((bigSep Finset.univ fun k : Kind => pos c k 0) ∗ (bigSep Finset.univ fun r : Fin 3 => tokens c r) ∗ spare c))
      ⊢ (G' m c : sProp 𝕄) := by
    unfold G' linear
    rw [bigSep_fin3]
    iintro ⟨HR, Hat, Htok, Hsp⟩
    isplitr [Hsp]
    · iexists K
      isplitl [HR]; · iexact HR
      isplitl [Hat] <;> iassumption
    iexact Hsp
  iapply (bigSep_beside (R := records m K) fun c _ => hone c)
  isplitr
  · unfold records; isplitl; · iexact HI
    iexact HR
  simp only [bigSep_sep']
  isplitl [Hat]; · iexact Hat
  isplitl [Htok] <;> iassumption

/-- All devices' cells are set up in one step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Swiglu

end
-- ==== Proof.Run.lean ====
/-
  The run of the whole program: every device's kernel ends, the result's array holds the result on every device, the
  arguments hold what they held, and every counter is at zero.
-/
module

public import Idealize.ShloMosaic.Lib.Pipeline.CollectiveSegs
public import proofs.«01_k».proof.Proof.Ghost

@[expose] public section

noncomputable section

namespace Cert.Swiglu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The start: any memory, all counters at zero. -/
def s₀ : MemSt nD τ sig (Elt F) := ⟨m, fun _ => 0, ρ⟩

/-! ## One device -/

/-- What a device's kernel starts from beside its buffers: its ghost state, its credits and the levels. -/
def start (c : Dev nD) : sProp 𝕄 := iprop(G' m c ∗ credits c ∗ levAts L lv)

/-- A device's two scratch buffers, each at some contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- Before the kernel, -/
def Φ₀ (c : Dev nD) : sProp 𝕄 := iprop(start m c ∗ scratch c)
/-- and after it: the scratch buffers, and all counters at zero. -/
def Φ₁ (c : Dev nD) : sProp 𝕄 := iprop(((bigSep Finset.univ fun k : Kind => semVal (kcell (c, k)) 0) ∗ spare c) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => WG m c
    | ⟨2, _⟩ => WU m c
    | ⟨3, _⟩ => WD m c
    | ⟨4, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-- A whole buffer of device `c` that holds `v`. -/
abbrev held (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

def bodyPre (c : Dev nD) : sProp 𝕄 :=
  iprop(Φ₀ m c ∗ (dats m ρ 0 c).owesAt () t0_0.castSucc
    ∗ (∃ d, held c cc0_stg0_0 ((dats m ρ 0 c).before (0 : Fin 5) t0_0 d))
    ∗ (∃ d, held c cc0_stg1_0 ((dats m ρ 0 c).before (1 : Fin 5) t0_0 d))
    ∗ (∃ d, held c cc0_stg2_0 ((dats m ρ 0 c).before (2 : Fin 5) t0_0 d))
    ∗ (∃ d, held c cc0_stg3_0 ((dats m ρ 0 c).before (3 : Fin 5) t0_0 d))
    ∗ (∃ d, held c cc0_stg4_0 ((dats m ρ 0 c).before (4 : Fin 5) t0_0 d)))

def bodyPost (c : Dev nD) : sProp 𝕄 :=
  iprop(Φ₁ c ∗ (dats m ρ 0 c).owesAt () t0_0.succ
    ∗ held c cc0_stg0_0 (X m c) ∗ held c cc0_stg1_0 (WG m c) ∗ held c cc0_stg2_0 (WU m c) ∗ held c cc0_stg3_0 (WD m c)
    ∗ held c cc0_stg4_0 (OUT m))

theorem before_x (c : Dev nD) (d) : (dats m ρ 0 c).before (0 : Fin 5) t0_0 d = X m c := by
  unfold Dat.before; rw [if_pos (fetch0_0 t0_0)]; rfl
theorem before_gate (c : Dev nD) (d) : (dats m ρ 0 c).before (1 : Fin 5) t0_0 d = WG m c := by
  unfold Dat.before; rw [if_pos (fetch0_1 t0_0)]; rfl
theorem before_up (c : Dev nD) (d) : (dats m ρ 0 c).before (2 : Fin 5) t0_0 d = WU m c := by
  unfold Dat.before; rw [if_pos (fetch0_2 t0_0)]; rfl
theorem before_down (c : Dev nD) (d) : (dats m ρ 0 c).before (3 : Fin 5) t0_0 d = WD m c := by
  unfold Dat.before; rw [if_pos (fetch0_3 t0_0)]; rfl

/-- A buffer holding a value is a points-to at that value. -/
theorem held_open (c : Dev nD) (b : Ref sig .tc) (v : b.ty.Contents (Elt F)) :
    held c b v ⊢ (((c : Thread nD τ).loc b) ↦{fullShare} v : sProp 𝕄) := by
  iintro ⟨%f, %hf, H⟩
  subst hf
  iexact H
theorem held_intro (c : Dev nD) (b : Ref sig .tc) (v : b.ty.Contents (Elt F)) :
    (((c : Thread nD τ).loc b) ↦{fullShare} v : sProp 𝕄) ⊢ held c b v := by
  iintro H
  iexists v
  isplitr; · (ipureintro; rfl)
  iexact H

set_option maxRecDepth 4000 in
/-- The kernel on device `c`, as the pipeline calls it. -/
theorem sound_body (c : Dev nD) : bodyPre m ρ c ⊢ Runs c
    (cc0_body xM (Memref.isWhole_whole _) gM (Memref.isWhole_whole _) uM (Memref.isWhole_whole _) dM (Memref.isWhole_whole _)
          oM (Memref.isWhole_whole _) sM (Memref.isWhole_whole _) rM (Memref.isWhole_whole _) cc0_scratch2 cc0_scratch3 cc0_scratch4 cc0_scratch5)
    (fun _ => bodyPost m ρ c) := by
  unfold bodyPre Φ₀ start G' scratch
  iintro ⟨⟨⟨⟨⟨%K, #HR, Hl⟩, Hsp⟩, Hcr, #Hlev⟩, Hs, Hr⟩, Ho, ⟨%d0, Hx⟩, ⟨%d1, Hg⟩, ⟨%d2, Hu⟩, ⟨%d3, Hd⟩, ⟨%d4, %f4, %h4, Hout⟩⟩
  rw [before_x, before_gate, before_up, before_down]
  ihave Hx := (held_open c cc0_stg0_0 (X m c)) $$ Hx
  ihave Hg := (held_open c cc0_stg1_0 (WG m c)) $$ Hg
  ihave Hu := (held_open c cc0_stg2_0 (WU m c)) $$ Hu
  ihave Hd := (held_open c cc0_stg3_0 (WD m c)) $$ Hd
  unfold Dat.owesAt Pipeline.owesWithin
  icases Ho with ⟨%W, %hW, HO⟩
  rw [show (dats m ρ 0 c).owed t0_0.castSucc = O₀ c from rfl]
  iapply (body_runs m K c fun _ => bodyPost m ρ c)
  isplitl [Hl Hcr Hs Hr HO Hx Hg Hu Hd Hout]
  · isplitr; · iexact HR
    isplitr; · iexact Hlev
    isplitl [Hx Hg Hu Hd]
    · unfold inputs
      isplitl [Hx]; · iexact Hx
      isplitl [Hg]; · iexact Hg
      isplitl [Hu] <;> iassumption
    isplitl [HO]; · unfold owing; iexists W; iexact HO
    isplitl [Hl]; · iexact Hl
    isplitl [Hcr]; · iexact Hcr
    isplitl [Hout]; · iexists f4; iexact Hout
    isplitl [Hs] <;> iassumption
  unfold inputs owing
  iintro ⟨⟨Hx, Hg, Hu, Hd⟩, ⟨%W', HO⟩, Hz, Hout, Hs, Hr⟩
  unfold bodyPost Φ₁ scratch Dat.owesAt Pipeline.owesWithin
  rw [show (dats m ρ 0 c).owed t0_0.succ = 0 from rfl]
  isplitl [Hz Hsp Hs Hr]
  · isplitl [Hz Hsp]
    · isplitl [Hz] <;> iassumption
    isplitl [Hs] <;> iassumption
  isplitl [HO]
  · iexists W'
    isplitr; · ipureintro; exact fun _ _ => Or.inl trivial
    iexact HO
  isplitl [Hx]; · iapply held_intro; iexact Hx
  isplitl [Hg]; · iapply held_intro; iexact Hg
  isplitl [Hu]; · iapply held_intro; iexact Hu
  isplitl [Hd]; · iapply held_intro; iexact Hd
  iapply held_intro; iexact Hout

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · unfold credits
    isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hz, Hr⟩
  ihave Hz := (counters_end (F := F) c) $$ Hz
  icases Hz with ⟨Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What an array of device `c` holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with all counters at zero: every fair execution of the program on the four
    devices ends, with every array at its final contents and every counter at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Swiglu

end
-- ==== Proof.Arrays.lean ====
/-
  What the arrays hold after the run: the four arguments what they held before it, and the result's array, on every
  device, the whole result.
-/
module

public import Idealize.ShloMosaic.Lib.Pipeline.ValueKit
public import proofs.«01_k».proof.Proof.Run

@[expose] public section

noncomputable section

namespace Cert.Swiglu

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-! ## A window of one block is its array -/

/-- What a device's kernel reads of `x` is all of its first argument, -/
theorem X_eq (c : Dev nD) : X m c = m ((c : Thread nD τ).loc main_arg0) := by
  funext i
  exact congrArg (m ((c : Thread nD τ).loc main_arg0)) (funext fun a => Fin.ext
    (Pipeline.Window.rect_emb_val_of_index_zero win0_0 (0 : Fin 1) a (by fin_cases a <;> rfl) i))

/-- of the gate weight, all of its second, -/
theorem WG_eq (c : Dev nD) : WG m c = m ((c : Thread nD τ).loc main_arg1) := by
  funext i
  exact congrArg (m ((c : Thread nD τ).loc main_arg1)) (funext fun a => Fin.ext
    (Pipeline.Window.rect_emb_val_of_index_zero win0_1 (0 : Fin 1) a (by fin_cases a <;> rfl) i))

/-- of the up weight, all of its third, -/
theorem WU_eq (c : Dev nD) : WU m c = m ((c : Thread nD τ).loc main_arg2) := by
  funext i
  exact congrArg (m ((c : Thread nD τ).loc main_arg2)) (funext fun a => Fin.ext
    (Pipeline.Window.rect_emb_val_of_index_zero win0_2 (0 : Fin 1) a (by fin_cases a <;> rfl) i))

/-- and of the down weight, all of its fourth. -/
theorem WD_eq (c : Dev nD) : WD m c = m ((c : Thread nD τ).loc main_arg3) := by
  funext i
  exact congrArg (m ((c : Thread nD τ).loc main_arg3)) (funext fun a => Fin.ext
    (Pipeline.Window.rect_emb_val_of_index_zero win0_3 (0 : Fin 1) a (by fin_cases a <;> rfl) i))

/-- The result's one block is its array, written back once. -/
theorem out_whole : win0_4.WholeAt (0 : Fin 1) :=
  ⟨by decide, fun t _ => Subsingleton.elim (α := Fin 1) t 0, fun a => ⟨by fin_cases a <;> rfl, by fin_cases a <;> rfl⟩⟩

/-- The result's array ends holding what the kernel leaves in its block. -/
theorem finalA_out (c : Dev nD) : finalA m ρ c (4 : Fin 5) = OUT m := by
  unfold finalA
  refine (dats m ρ 0 c).arrAt_eq_of_after_last (4 : Fin 5) (0 : Fin 1) out_whole _ fun j => ?_
  rfl

/-! ## The run, at the arrays the program names -/

/-- Every fair execution ends with the result on every device, the arguments as they were, and every counter at zero. -/
theorem run_main : θ_run defs (onTc (τ := τ) (main (F := F))) ⟨m, fun _ => 0, ρ⟩ (fun r => (∀ c : Dev nD,
      r.2.mem ((c.tc : Thread nD τ).loc main_v1) = OUT m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (4 : Fin 5)).trans (finalA_out m ρ c),
      (h.1 c (0 : Fin 5)).trans ((dats m ρ 0 c).arrAt_in (0 : Fin 5) rfl _),
      (h.1 c (1 : Fin 5)).trans ((dats m ρ 0 c).arrAt_in (1 : Fin 5) rfl _),
      (h.1 c (2 : Fin 5)).trans ((dats m ρ 0 c).arrAt_in (2 : Fin 5) rfl _),
      (h.1 c (3 : Fin 5)).trans ((dats m ρ 0 c).arrAt_in (3 : Fin 5) rfl _)⟩, h.2⟩) (run_arrays m ρ)

end Cert.Swiglu

end
-- ==== Proof.Share.lean ====
/-
  The feed-forward product over the extended reals, read at an index: a device's share of a block, and the reference's
  whole product, are sums over the hidden columns of the same term.
-/
module

public import Idealize.ShloMosaic.Lib.Pointwise
public import proofs.«01_k».proof.Proof.Blocks
public import proofs.«01_k».proof.Proof.Gen.ReferenceIdeal.Run

@[expose] public section

noncomputable section

namespace Cert.Swiglu

open Cert.KernelIdeal Cert.KernelIdeal.Gen
open Idealize.ShloMosaic Idealize.ShloMosaic.TcCoe

/-- One hidden value: the gate product times the up product's activation, from a row of `x` and a column of each of the
    two weights. -/
def hidden (x g u : Fin 512 → EReal) : EReal :=
  (∑ k, x k * g k) * ((∑ k, x k * u k) * Ideal.logistic (∑ k, x k * u k))

/-- An exponential is not negative, so one more than it is not zero. -/
theorem one_add_exp_ne_zero (x : EReal) : 1 + Ideal.exp x ≠ 0 := by
  have h : 0 ≤ Ideal.exp x := by
    induction x with
    | bot => simp
    | top => simp
    | coe r => simpa using (Real.exp_pos r).le
  have h1 : (1 : EReal) ≤ 1 + Ideal.exp x := by simpa using add_le_add_right h (1 : EReal)
  exact (lt_of_lt_of_le zero_lt_one h1).ne'

/-- The activation as the reference writes it, a quotient, is the one the kernel computes, a product with the logistic
    function: at the infinities too. -/
theorem silu_eq (x : EReal) : Ideal.div x (1 + Ideal.exp (-x)) = x * Ideal.logistic x := by
  have h := one_add_exp_ne_zero (-x)
  unfold Ideal.logistic Ideal.div
  rw [if_neg h, if_neg h, one_mul]

/-- A device's share of a block, at a row and a column: the sum over its own 1024 hidden columns. -/
theorem share_apply (xb : Vec Ideal S128x512 .f32) (wg wu : Vec Ideal S512x1024 .f32) (wd : Vec Ideal S1024x512 .f32)
    (r : Fin 128) (l : Fin 512) :
    share xb wg wu wd (ix2 r l)
      = ∑ k : Fin 1024, hidden (fun a => xb (ix2 r a)) (fun a => wg (ix2 a k)) (fun a => wu (ix2 a k)) * wd (ix2 k l) := by
  unfold share k0_pay14 k0_pay13 hidden
  pointwise

/-- The sum of four blocks, at an index. -/
theorem sum4_apply (own v1 v2 v3 : Vec Ideal S128x512 .f32) (r : Fin 128) (l : Fin 512) :
    sum4 own v1 v2 v3 (ix2 r l) = own (ix2 r l) + v1 (ix2 r l) + v2 (ix2 r l) + v3 (ix2 r l) := by
  unfold sum4 k0_pay15 asSlot
  pointwise

/-- The reference's result as a function of its four arguments. -/
def whole (x : FVec Ideal Cert.ReferenceIdeal.S512x512 .f32) (wg wu : FVec Ideal Cert.ReferenceIdeal.S512x4096 .f32)
    (wd : FVec Ideal Cert.ReferenceIdeal.S4096x512 .f32) : FVec Ideal Cert.ReferenceIdeal.S512x512 .f32 :=
  fun i => ∑ k : Fin 4096, hidden (fun a => x (ix2 (i 0) a)) (fun a => wg (ix2 a k)) (fun a => wu (ix2 a k)) * wd (ix2 k (i 1))

/-- Its operations, in the reference's order, compute that function. -/
theorem whole_eq (x : FVec Ideal Cert.ReferenceIdeal.S512x512 .f32) (wg wu : FVec Ideal Cert.ReferenceIdeal.S512x4096 .f32)
    (wd : FVec Ideal Cert.ReferenceIdeal.S4096x512 .f32) :
    Host.dotGeneral (F := Ideal) Cert.ReferenceIdeal.dot_S512x4096_S4096x512_S512x512_1_0_0_1_n_n none
      (mulf (Host.dotGeneral Cert.ReferenceIdeal.dot_S512x512_S512x4096_S512x4096_1_0_0_1_n_n none x wg)
        (Host.divf (Host.dotGeneral Cert.ReferenceIdeal.dot_S512x512_S512x4096_S512x4096_1_0_0_1_n_n none x wu)
          (addf (broadcastInDim Cert.ReferenceIdeal.S512x4096 ![] Cert.ReferenceIdeal.Gen.bcast_S_S512x4096 (constant Cert.ReferenceIdeal.S_ .f32 0x3F800000#32))
            (Host.exp (Host.negf (Host.dotGeneral Cert.ReferenceIdeal.dot_S512x512_S512x4096_S512x4096_1_0_0_1_n_n none x wu)))))) wd
      = whole x wg wu wd := by
  funext i
  unfold whole hidden
  simp only [← silu_eq]
  pointwise

end Cert.Swiglu

end
-- ==== Proof.Value.lean ====
/-
  The result is the reference's: the shares of the four devices, each over its own quarter of the hidden columns, add up
  to the sum over all of them.
-/
module

public import Idealize.ShloMosaic.Lib.Layout
public import proofs.«01_k».proof.Proof.Arrays
public import proofs.«01_k».proof.Proof.Share

@[expose] public section

noncomputable section

namespace Cert.Swiglu

open Cert.KernelIdeal Cert.KernelIdeal.Gen
open Idealize.ShloMosaic Idealize.ShloMosaic.TcCoe

/-- A device and the three ahead of it are the four devices. -/
theorem sum_far {M : Type} [AddCommMonoid M] (f : Dev nD → M) (b : Dev nD) :
    f b + f (far b 0) + f (far b 1) + f (far b 2) = ∑ d : Fin 4, f d := by
  rw [Fin.sum_univ_four]
  have h : ∀ b : Dev nD, b = 0 ∨ b = 1 ∨ b = 2 ∨ b = 3 := by decide
  rcases h b with rfl | rfl | rfl | rfl
  · rfl
  · show f 1 + f 2 + f 3 + f 0 = _
    ac_rfl
  · show f 2 + f 3 + f 0 + f 1 = _
    ac_rfl
  · show f 3 + f 0 + f 1 + f 2 = _
    ac_rfl

variable (m : (ℓ : Loc nD τ sig) → Buf (Elt Ideal) ℓ)
variable (x : FVec Ideal Cert.ReferenceIdeal.S512x512 .f32) (wg wu : FVec Ideal Cert.ReferenceIdeal.S512x4096 .f32)
  (wd : FVec Ideal Cert.ReferenceIdeal.S4096x512 .f32)

/-- The devices hold `x` whole, a quarter of the columns of the gate and up weights, and the same quarter of the rows of
    the down weight. -/
def Sharded : Prop := ∀ c : Dev nD,
  m ((c.tc : Thread nD τ).loc main_arg0) = x
  ∧ m ((c.tc : Thread nD τ).loc main_arg1) = Layout.block ⟨2, ![512, 1024]⟩ ⟨2, ![512, 4096]⟩ 1 4 c wg
  ∧ m ((c.tc : Thread nD τ).loc main_arg2) = Layout.block ⟨2, ![512, 1024]⟩ ⟨2, ![512, 4096]⟩ 1 4 c wu
  ∧ m ((c.tc : Thread nD τ).loc main_arg3) = Layout.block ⟨2, ![1024, 512]⟩ ⟨2, ![4096, 512]⟩ 0 4 c wd

/-- Hidden column `k` of device `d`'s quarter, among all of them. -/
def column (d : Fin 4) (k : Fin 1024) : Fin 4096 := ⟨d.val * 1024 + k.val, by omega⟩

/-- Row `r` of block `b`, among all the rows. -/
def row (b : Fin 4) (r : Fin 128) : Fin 512 := ⟨b.val * 128 + r.val, by omega⟩

/-- Where a block's rows lie in the array. -/
theorem rowRect_emb (b : Fin 4) (r : Fin 128) (a : Fin 512) : (rowRect b).emb (ix2 r a) = ix2 (row b r) a := by
  funext k
  apply Fin.ext
  match k with
  | ⟨0, _⟩ => show 128 * b.val + 1 * r.val = b.val * 128 + r.val; omega
  | ⟨1, _⟩ => show 0 + 1 * a.val = a.val; omega

variable {m x wg wu wd}

/-- A device's share of a block, of the whole arrays. -/
theorem contrib_apply (h : Sharded m x wg wu wd) (d : Dev nD) (b : Fin 4) (r : Fin 128) (l : Fin 512) :
    contrib m d b (ix2 r l)
      = ∑ k : Fin 1024, hidden (fun a => x (ix2 (row b r) a)) (fun a => wg (ix2 a (column d k)))
          (fun a => wu (ix2 a (column d k))) * wd (ix2 (column d k) l) := by
  obtain ⟨h0, h1, h2, h3⟩ := h d
  have e0 : ∀ a, rows (X m d) b (ix2 r a) = x (ix2 (row b r) a) := fun a => by
    rw [X_eq]; exact (congrFun h0 _).trans (congrArg x (rowRect_emb b r a))
  have e1 : ∀ a k, WG m d (ix2 a k) = wg (ix2 a (column d k)) := fun a k => by
    rw [WG_eq]; exact (congrFun h1 _).trans (congrArg wg (by idx_ext))
  have e2 : ∀ a k, WU m d (ix2 a k) = wu (ix2 a (column d k)) := fun a k => by
    rw [WU_eq]; exact (congrFun h2 _).trans (congrArg wu (by idx_ext))
  have e3 : ∀ k, WD m d (ix2 k l) = wd (ix2 (column d k) l) := fun k => by
    rw [WD_eq]; exact (congrFun h3 _).trans (congrArg wd (by idx_ext))
  unfold contrib
  rw [share_apply]
  simp only [e0, e1, e2, e3]

/-- A block reduced: the sum over all the hidden columns. -/
theorem red_apply (h : Sharded m x wg wu wd) (b : Dev nD) (r : Fin 128) (l : Fin 512) :
    red m b (ix2 r l) = whole x wg wu wd (ix2 (row b r) l) := by
  unfold red
  rw [sum4_apply]
  refine (sum_far (fun d => contrib m d b (ix2 r l)) b).trans ?_
  simp only [contrib_apply h]
  exact (Fin.sum_univ_tiles 4 1024 rfl fun k : Fin 4096 => hidden (fun a => x (ix2 (row b r) a)) (fun a => wg (ix2 a k))
    (fun a => wu (ix2 a k)) * wd (ix2 k l)).symm

/-- The whole result is the reference's. -/
theorem OUT_eq (h : Sharded m x wg wu wd) : OUT m = whole x wg wu wd := by
  funext i
  unfold OUT
  have e : ∀ (b : Dev nD) (j : S128x512.Idx), red m b j = whole x wg wu wd (ix2 (row b (j 0)) (j 1)) := fun b j =>
    (congrArg (red m b) (by idx_ext)).trans (red_apply h b (j 0) (j 1))
  rw [e]
  refine congrArg (whole x wg wu wd) ?_
  funext a
  apply Fin.ext
  fin_cases a
  · exact Nat.div_add_mod' (i 0).val 128
  · rfl

end Cert.Swiglu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel and its idealized form are one text: each label has the same body, -/
theorem bodies_eq {F : FTy → Type} [FloatOps F] : Cert.Kernel.defs₀ (F := F) = Cert.KernelIdeal.defs₀ (F := F) := by
  refine congrArg Defs.onTc (funext fun l => funext fun a => ?_)
  match l, a with
  | ⟨0, _⟩, (_, _) => rfl
  | ⟨_ + 1, h⟩, _ => exact absurd h (Nat.not_lt.2 (Nat.le_add_left _ _))

/-- so the two run under the same definitions. -/
theorem defs_eq {F : FTy → Type} [FloatOps F] : Cert.Kernel.defs (F := F) = Cert.KernelIdeal.defs (F := F) :=
  congrArg (Pipeline.defs Cert.KernelIdeal.pcfgs) bodies_eq

/-- The kernel ends from any memory, its arguments as they were and its counters at zero: the run proved for its
    idealized form over any float values, at the bits. -/
theorem frame_kernel : Cert.quiescent_Kernel := by
  intro m ρ _
  rw [defs_eq]
  exact (θ_run Cert.KernelIdeal.defs _ _).mono (fun _ h => ⟨fun c => (h.1 c).2, h.2⟩)
    (Cert.Swiglu.run_main (F := Bits) m ρ)

/-- The same, over the extended reals. -/
theorem frame_ideal : Cert.quiescent_KernelIdeal := by
  intro m ρ _
  exact (θ_run Cert.KernelIdeal.defs _ _).mono (fun _ h => ⟨fun c => (h.1 c).2, h.2⟩)
    (Cert.Swiglu.run_main (F := Ideal) m ρ)

/-- The reference ends, its arguments as they were; it declares no semaphore. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over the extended reals every device ends with the reference's result. -/
theorem value : Cert.algebraic_KernelIdeal_ReferenceIdeal := by
  intro m ρ m' ρ' _ h
  have hs : Cert.Swiglu.Sharded m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) := h
  refine ⟨_, (θ_run Cert.KernelIdeal.defs _ _).mono
      (fun _ hr c => ⟨(hr.1 c).1.trans (Cert.Swiglu.OUT_eq hs), (hr.1 c).2⟩) (Cert.Swiglu.run_main (F := Ideal) m ρ), ?_⟩
  exact (θ_run Cert.ReferenceIdeal.defs _ _).mono
    (fun _ hr => ⟨(hr 0).1.trans (Cert.Swiglu.whole_eq _ _ _ _), (hr 0).2⟩) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
